-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg_regression [hPre_nonneg_regression : Cert.Pre_nonneg_regression.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg_regression.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg_regression [hPre_nonneg_regression : Cert.Pre_nonneg_regression.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg_regression.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonneg_regression [hKernelIdeal : Cert.KernelIdeal.Facts] [hPre_nonneg_regression : Cert.Pre_nonneg_regression.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg_regression m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonneg_regression [hReferenceIdeal : Cert.ReferenceIdeal.Facts] [hPre_nonneg_regression : Cert.Pre_nonneg_regression.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg_regression m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonneg_regression [hKernelIdeal : Cert.KernelIdeal.Facts] [hReferenceIdeal : Cert.ReferenceIdeal.Facts] [hPre_nonneg_regression : Cert.Pre_nonneg_regression.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg_regression m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v99)) (v1 : (c : Dev Cert.KernelIdeal.nD) → Buf (Elt Ideal) ((c.tc : Thread Cert.KernelIdeal.nD Cert.KernelIdeal.τ).loc Cert.KernelIdeal.main_v100)) (v2 : (c : Dev Cert.KernelIdeal.nD) → Buf (Elt Ideal) ((c.tc : Thread Cert.KernelIdeal.nD Cert.KernelIdeal.τ).loc Cert.KernelIdeal.main_v101)) (v3 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_v187) = v1 c
          ∧ r.2.mem ((c.tc : Thread Cert.ReferenceIdeal.nD Cert.ReferenceIdeal.τ).loc Cert.ReferenceIdeal.main_v188) = v2 c
          ∧ r.2.mem ((c.tc : Thread Cert.ReferenceIdeal.nD Cert.ReferenceIdeal.τ).loc Cert.ReferenceIdeal.main_v180) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonneg_regression : Cert.Pre_nonneg_regression.Facts),
    quiescent_Kernel (hKernel := hKernel)
    ∧ quiescent_KernelIdeal (hKernelIdeal := hKernelIdeal)
    ∧ quiescent_KernelIdeal_pre_nonneg_regression (hKernelIdeal := hKernelIdeal) (hPre_nonneg_regression := hPre_nonneg_regression)
    ∧ quiescent_ReferenceIdeal (hReferenceIdeal := hReferenceIdeal)
    ∧ quiescent_ReferenceIdeal_pre_nonneg_regression (hReferenceIdeal := hReferenceIdeal) (hPre_nonneg_regression := hPre_nonneg_regression)
    ∧ preserves_Kernel_KernelIdeal
    ∧ algebraic_KernelIdeal_ReferenceIdeal_pre_nonneg_regression (hKernelIdeal := hKernelIdeal) (hReferenceIdeal := hReferenceIdeal) (hPre_nonneg_regression := hPre_nonneg_regression)
-- ==== Pre_nonneg_regression.lean ====
abbrev S16384x2 : Shape := ⟨2, ![16384, 2]⟩
abbrev S2x80x128x128 : Shape := ⟨4, ![2, 80, 128, 128]⟩
abbrev S2x4x128x128 : Shape := ⟨4, ![2, 4, 128, 128]⟩
abbrev S2x1x128x128 : Shape := ⟨4, ![2, 1, 128, 128]⟩
abbrev S2x2 : Shape := ⟨2, ![2, 2]⟩
abbrev S_ : Shape := ⟨0, ![]⟩

class Facts : Prop where
  bcast_S_S2x4x128x128 : S_.BroadcastsInDim S2x4x128x128 (![] : Fin 0 → Fin S2x4x128x128.rank)

variable [Facts]

def fn {F : FTy → Type} [FloatOps F] (main_arg0 : FVec F S16384x2 .f32) (main_arg1 : FVec F S2x80x128x128 .f32) (main_arg2 : FVec F S2x4x128x128 .f32) (main_arg3 : FVec F S2x1x128x128 .f32) (main_arg4 : IVec S2x2 32) : IVec S2x4x128x128 1 :=
  let main_cst : FVec F S_ .f32 := constant S_ .f32 0x00000000#32
  let main_v0 : FVec F S2x4x128x128 .f32 := broadcastInDim S2x4x128x128 ![] bcast_S_S2x4x128x128 main_cst
  let main_v1 : IVec S2x4x128x128 1 := cmpf .oge main_arg2 main_v0
  main_v1
-- ==== Kernel.lean ====
abbrev S16384x2 : Shape := ⟨2, ![16384, 2]⟩
abbrev S2x80x128x128 : Shape := ⟨4, ![2, 80, 128, 128]⟩
abbrev S2x4x128x128 : Shape := ⟨4, ![2, 4, 128, 128]⟩
abbrev S2x1x128x128 : Shape := ⟨4, ![2, 1, 128, 128]⟩
abbrev S2x2 : Shape := ⟨2, ![2, 2]⟩
abbrev S2x128x128x80 : Shape := ⟨4, ![2, 128, 128, 80]⟩
abbrev S2x16384x80 : Shape := ⟨3, ![2, 16384, 80]⟩
abbrev S2x128x128x1 : Shape := ⟨4, ![2, 128, 128, 1]⟩
abbrev S2x16384x1 : Shape := ⟨3, ![2, 16384, 1]⟩
abbrev S1x2048x80 : Shape := ⟨3, ![1, 2048, 80]⟩
abbrev S1x2048x1 : Shape := ⟨3, ![1, 2048, 1]⟩
abbrev S2048x80 : Shape := ⟨2, ![2048, 80]⟩
abbrev S2048x1 : Shape := ⟨2, ![2048, 1]⟩
abbrev S2x1310720 : Shape := ⟨2, ![2, 1310720]⟩
abbrev S2x1000 : Shape := ⟨2, ![2, 1000]⟩
abbrev S_ : Shape := ⟨0, ![]⟩
abbrev S2x128x128x4 : Shape := ⟨4, ![2, 128, 128, 4]⟩
abbrev S2x16384x4 : Shape := ⟨3, ![2, 16384, 4]⟩
abbrev S2x1000x1 : Shape := ⟨3, ![2, 1000, 1]⟩
abbrev S2x1000x2 : Shape := ⟨3, ![2, 1000, 2]⟩
abbrev S1 : Shape := ⟨1, ![1]⟩
abbrev S1x1x1 : Shape := ⟨3, ![1, 1, 1]⟩
abbrev S2x1000x4 : Shape := ⟨3, ![2, 1000, 4]⟩
abbrev S2x1 : Shape := ⟨2, ![2, 1]⟩
abbrev S2 : Shape := ⟨1, ![2]⟩
abbrev S2x1024x4 : Shape := ⟨3, ![2, 1024, 4]⟩
abbrev S2x4x1024 : Shape := ⟨3, ![2, 4, 1024]⟩
abbrev S2x1024 : Shape := ⟨2, ![2, 1024]⟩
abbrev S2x1x1024 : Shape := ⟨3, ![2, 1, 1024]⟩
abbrev S1x1024x4 : Shape := ⟨3, ![1, 1024, 4]⟩
abbrev S1x4x1024 : Shape := ⟨3, ![1, 4, 1024]⟩
abbrev S1x1x1024 : Shape := ⟨3, ![1, 1, 1024]⟩
abbrev S1024x1024 : Shape := ⟨2, ![1024, 1024]⟩
abbrev S1024x4 : Shape := ⟨2, ![1024, 4]⟩
abbrev S4x1024 : Shape := ⟨2, ![4, 1024]⟩
abbrev S1024x1 : Shape := ⟨2, ![1024, 1]⟩
abbrev S1x1024 : Shape := ⟨2, ![1, 1024]⟩
abbrev S2x1x1000 : Shape := ⟨3, ![2, 1, 1000]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 289
  | .vmem => 15
  | .smem => 0
  | _ => 0

abbrev hbmTy0_0 (i : Nat) : BufTy := match i % 128 with
  | 0 => ⟨S16384x2, .f32⟩
  | 1 => ⟨S2x80x128x128, .f32⟩
  | 2 => ⟨S2x4x128x128, .f32⟩
  | 3 => ⟨S2x1x128x128, .f32⟩
  | 4 => ⟨S2x2, .i32⟩
  | 5 => ⟨S2x128x128x80, .f32⟩
  | 6 => ⟨S2x16384x80, .f32⟩
  | 7 => ⟨S2x128x128x1, .f32⟩
  | 8 => ⟨S2x16384x1, .f32⟩
  | 9 => ⟨S2x16384x80, .f32⟩
  | 10 => ⟨S2x1310720, .f32⟩
  | 11 => ⟨S2x1000, .f32⟩
  | 12 => ⟨S2x1000, .i32⟩
  | 13 => ⟨S_, .i32⟩
  | 14 => ⟨S_, .i32⟩
  | 15 => ⟨S2x1000, .i32⟩
  | 16 => ⟨S2x1000, .i32⟩
  | 17 => ⟨S2x1000, .i32⟩
  | 18 => ⟨S_, .i32⟩
  | 19 => ⟨S2x1000, .i32⟩
  | 20 => ⟨S2x1000, .i1⟩
  | 21 => ⟨S2x1000, .i32⟩
  | 22 => ⟨S2x1000, .i32⟩
  | 23 => ⟨S_, .i32⟩
  | 24 => ⟨S2x1000, .i32⟩
  | 25 => ⟨S2x1000, .i1⟩
  | 26 => ⟨S2x1000, .i1⟩
  | 27 => ⟨S_, .i32⟩
  | 28 => ⟨S2x1000, .i32⟩
  | 29 => ⟨S2x1000, .i32⟩
  | 30 => ⟨S2x1000, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S2x1000, .i32⟩
  | 38 => ⟨S2x1000, .i32⟩
  | 39 => ⟨S_, .i32⟩
  | 40 => ⟨S2x1000, .i32⟩
  | 41 => ⟨S2x1000, .i1⟩
  | 42 => ⟨S_, .i32⟩
  | 43 => ⟨S2x1000, .i32⟩
  | 44 => ⟨S2x1000, .i1⟩
  | 45 => ⟨S_, .i32⟩
  | 46 => ⟨S_, .i1⟩
  | 47 => ⟨S2x1000, .i1⟩
  | 48 => ⟨S2x1000, .i1⟩
  | 49 => ⟨S2x1000, .i1⟩
  | 50 => ⟨S2x1000, .i32⟩
  | 51 => ⟨S2x1000, .i32⟩
  | 52 => ⟨S2x1000, .i32⟩
  | 53 => ⟨S_, .i32⟩
  | 54 => ⟨S2x1000, .i32⟩
  | 55 => ⟨S2x1000, .i32⟩
  | 56 => ⟨S_, .f32⟩
  | 57 => ⟨S2x1000, .f32⟩
  | 58 => ⟨S2x1000, .i1⟩
  | 59 => ⟨S2x128x128x4, .f32⟩
  | 60 => ⟨S2x16384x4, .f32⟩
  | 61 => ⟨S_, .f32⟩
  | 62 => ⟨S2x16384x4, .f32⟩
  | 63 => ⟨S2x16384x4, .f32⟩
  | 64 => ⟨S_, .i32⟩
  | 65 => ⟨S2x1000, .i32⟩
  | 66 => ⟨S2x1000, .i1⟩
  | 67 => ⟨S_, .i32⟩
  | 68 => ⟨S2x1000, .i32⟩
  | 69 => ⟨S2x1000, .i32⟩
  | 70 => ⟨S2x1000, .i32⟩
  | 71 => ⟨S2x1000x1, .i32⟩
  | 72 => ⟨S2x1000x2, .f32⟩
  | 73 => ⟨S2x1000x1, .i32⟩
  | 74 => ⟨S_, .i32⟩
  | 75 => ⟨S2x1000x1, .i32⟩
  | 76 => ⟨S2x1000x1, .i1⟩
  | 77 => ⟨S_, .i32⟩
  | 78 => ⟨S2x1000x1, .i32⟩
  | 79 => ⟨S2x1000x1, .i32⟩
  | 80 => ⟨S2x1000x1, .i32⟩
  | 81 => ⟨S1, .i32⟩
  | 82 => ⟨S_, .i32⟩
  | 83 => ⟨S2x1000x1, .i32⟩
  | 84 => ⟨S2x1000x1, .i1⟩
  | 85 => ⟨S1x1x1, .i32⟩
  | 86 => ⟨S2x1000x1, .i32⟩
  | 87 => ⟨S2x1000x1, .i1⟩
  | 88 => ⟨S2x1000x1, .i1⟩
  | 89 => ⟨S_, .i1⟩
  | 90 => ⟨S2x1000, .i1⟩
  | 91 => ⟨S2x1000x4, .f32⟩
  | 92 => ⟨S2x1000x4, .i1⟩
  | 93 => ⟨S_, .f32⟩
  | 94 => ⟨S2x1000x4, .f32⟩
  | 95 => ⟨S2x1000x4, .f32⟩
  | 96 => ⟨S2x1000x1, .f32⟩
  | 97 => ⟨S2x1000, .f32⟩
  | 98 => ⟨S2x1000x1, .f32⟩
  | 99 => ⟨S2x1000, .f32⟩
  | 100 => ⟨S2x1000, .f32⟩
  | 101 => ⟨S2x1000x1, .f32⟩
  | 102 => ⟨S2x1000, .f32⟩
  | 103 => ⟨S2x1000x1, .f32⟩
  | 104 => ⟨S2x1000, .f32⟩
  | 105 => ⟨S2x1000, .f32⟩
  | 106 => ⟨S2x1000x1, .f32⟩
  | 107 => ⟨S2x1000, .f32⟩
  | 108 => ⟨S2x1000x1, .f32⟩
  | 109 => ⟨S2x1000, .f32⟩
  | 110 => ⟨S2x1000, .f32⟩
  | 111 => ⟨S2x1000x1, .f32⟩
  | 112 => ⟨S2x1000, .f32⟩
  | 113 => ⟨S2x1000x1, .f32⟩
  | 114 => ⟨S2x1000, .f32⟩
  | 115 => ⟨S2x1000, .f32⟩
  | 116 => ⟨S2x1, .i32⟩
  | 117 => ⟨S2, .i32⟩
  | 118 => ⟨S2, .f32⟩
  | 119 => ⟨S2x1, .f32⟩
  | 120 => ⟨S2x1, .i32⟩
  | 121 => ⟨S2, .i32⟩
  | 122 => ⟨S2, .f32⟩
  | 123 => ⟨S2x1, .f32⟩
  | 124 => ⟨S_, .f32⟩
  | 125 => ⟨S2x1, .f32⟩
  | 126 => ⟨S2x1, .f32⟩
  | 127 => ⟨S_, .f32⟩
  | _ => ⟨S16384x2, .f32⟩

abbrev hbmTy0_1 (i : Nat) : BufTy := match i % 128 with
  | 0 => ⟨S_, .f32⟩
  | 1 => ⟨S2x1000, .f32⟩
  | 2 => ⟨S2x1000, .f32⟩
  | 3 => ⟨S2x1000, .f32⟩
  | 4 => ⟨S2x1000, .f32⟩
  | 5 => ⟨S_, .f32⟩
  | 6 => ⟨S2x1, .f32⟩
  | 7 => ⟨S2x1, .f32⟩
  | 8 => ⟨S_, .f32⟩
  | 9 => ⟨S_, .f32⟩
  | 10 => ⟨S2x1000, .f32⟩
  | 11 => ⟨S2x1000, .f32⟩
  | 12 => ⟨S2x1000, .f32⟩
  | 13 => ⟨S2x1000, .f32⟩
  | 14 => ⟨S_, .f32⟩
  | 15 => ⟨S2x1, .f32⟩
  | 16 => ⟨S2x1, .f32⟩
  | 17 => ⟨S_, .f32⟩
  | 18 => ⟨S_, .f32⟩
  | 19 => ⟨S2x1000, .f32⟩
  | 20 => ⟨S2x1000, .f32⟩
  | 21 => ⟨S2x1000, .f32⟩
  | 22 => ⟨S2x1000, .f32⟩
  | 23 => ⟨S_, .f32⟩
  | 24 => ⟨S2x1, .f32⟩
  | 25 => ⟨S2x1, .f32⟩
  | 26 => ⟨S_, .f32⟩
  | 27 => ⟨S_, .f32⟩
  | 28 => ⟨S2x1000, .f32⟩
  | 29 => ⟨S2x1000, .f32⟩
  | 30 => ⟨S2x1000, .f32⟩
  | 31 => ⟨S2x1000, .f32⟩
  | 32 => ⟨S2x1000x1, .f32⟩
  | 33 => ⟨S2x1000x1, .f32⟩
  | 34 => ⟨S2x1000x1, .f32⟩
  | 35 => ⟨S2x1000x1, .f32⟩
  | 36 => ⟨S2x1000x4, .f32⟩
  | 37 => ⟨S_, .f32⟩
  | 38 => ⟨S_, .f32⟩
  | 39 => ⟨S2x1000, .f32⟩
  | 40 => ⟨S2x1000, .f32⟩
  | 41 => ⟨S2x1000, .f32⟩
  | 42 => ⟨S_, .f32⟩
  | 43 => ⟨S_, .f32⟩
  | 44 => ⟨S2x1000, .f32⟩
  | 45 => ⟨S2x1000, .f32⟩
  | 46 => ⟨S_, .f32⟩
  | 47 => ⟨S_, .f32⟩
  | 48 => ⟨S2x1000, .f32⟩
  | 49 => ⟨S_, .f32⟩
  | 50 => ⟨S_, .f32⟩
  | 51 => ⟨S2x1000, .f32⟩
  | 52 => ⟨S2x1000, .f32⟩
  | 53 => ⟨S2x1000x1, .f32⟩
  | 54 => ⟨S2x1000x4, .f32⟩
  | 55 => ⟨S2x1000x4, .f32⟩
  | 56 => ⟨S_, .i32⟩
  | 57 => ⟨S_, .f32⟩
  | 58 => ⟨S2x1024x4, .f32⟩
  | 59 => ⟨S2x4x1024, .f32⟩
  | 60 => ⟨S2x1000, .f32⟩
  | 61 => ⟨S_, .i32⟩
  | 62 => ⟨S_, .f32⟩
  | 63 => ⟨S2x1024, .f32⟩
  | 64 => ⟨S2x1x1024, .f32⟩
  | 65 => ⟨S2x1x1024, .f32⟩
  | 66 => ⟨S2x1x1000, .f32⟩
  | 67 => ⟨S2x1000, .f32⟩
  | 68 => ⟨S_, .f32⟩
  | 69 => ⟨S2x1000, .f32⟩
  | 70 => ⟨S2x1000, .i1⟩
  | 71 => ⟨S_, .f32⟩
  | 72 => ⟨S_, .f32⟩
  | 73 => ⟨S2x1000, .f32⟩
  | 74 => ⟨S2x1000, .f32⟩
  | 75 => ⟨S2x100, .f32⟩
  | 76 => ⟨S2x100, .i32⟩
  | 77 => ⟨S_, .f32⟩
  | 78 => ⟨S2x100, .f32⟩
  | 79 => ⟨S2x100, .i1⟩
  | 80 => ⟨S2x100x1, .i32⟩
  | 81 => ⟨S_, .i32⟩
  | 82 => ⟨S2x100x1, .i32⟩
  | 83 => ⟨S2x100x1, .i1⟩
  | 84 => ⟨S_, .i32⟩
  | 85 => ⟨S2x100x1, .i32⟩
  | 86 => ⟨S2x100x1, .i32⟩
  | 87 => ⟨S2x100x1, .i32⟩
  | 88 => ⟨S1, .i32⟩
  | 89 => ⟨S_, .i32⟩
  | 90 => ⟨S2x100x1, .i32⟩
  | 91 => ⟨S2x100x1, .i1⟩
  | 92 => ⟨S1x1x1, .i32⟩
  | 93 => ⟨S2x100x1, .i32⟩
  | 94 => ⟨S2x100x1, .i1⟩
  | 95 => ⟨S2x100x1, .i1⟩
  | 96 => ⟨S_, .i1⟩
  | 97 => ⟨S2x100, .i1⟩
  | 98 => ⟨S2x100x4, .f32⟩
  | 99 => ⟨S2x100x4, .i1⟩
  | 100 => ⟨S_, .f32⟩
  | 101 => ⟨S2x100x4, .f32⟩
  | 102 => ⟨S2x100x4, .f32⟩
  | 103 => ⟨S_, .i32⟩
  | 104 => ⟨S2x100, .i32⟩
  | 105 => ⟨S2x100, .i1⟩
  | 106 => ⟨S_, .i32⟩
  | 107 => ⟨S2x100, .i32⟩
  | 108 => ⟨S2x100, .i32⟩
  | 109 => ⟨S2x100, .i32⟩
  | 110 => ⟨S2x100x1, .i32⟩
  | 111 => ⟨S1, .i32⟩
  | 112 => ⟨S_, .i32⟩
  | 113 => ⟨S2x100x1, .i32⟩
  | 114 => ⟨S2x100x1, .i1⟩
  | 115 => ⟨S1x1x1, .i32⟩
  | 116 => ⟨S2x100x1, .i32⟩
  | 117 => ⟨S2x100x1, .i1⟩
  | 118 => ⟨S2x100x1, .i1⟩
  | 119 => ⟨S_, .i1⟩
  | 120 => ⟨S2x100, .i1⟩
  | 121 => ⟨S2x100, .f32⟩
  | 122 => ⟨S_, .f32⟩
  | 123 => ⟨S2x100, .f32⟩
  | 124 => ⟨S2x100, .f32⟩
  | 125 => ⟨S_, .i32⟩
  | 126 => ⟨S2x100, .i32⟩
  | 127 => ⟨S2x100, .i1⟩
  | _ => ⟨S16384x2, .f32⟩

abbrev hbmTy0_2 (i : Nat) : BufTy := match i % 128 with
  | 0 => ⟨S_, .i32⟩
  | 1 => ⟨S2x100, .i32⟩
  | 2 => ⟨S2x100, .i32⟩
  | 3 => ⟨S2x100, .i32⟩
  | 4 => ⟨S2x100x1, .i32⟩
  | 5 => ⟨S1, .i32⟩
  | 6 => ⟨S_, .i32⟩
  | 7 => ⟨S2x100x1, .i32⟩
  | 8 => ⟨S2x100x1, .i1⟩
  | 9 => ⟨S1x1x1, .i32⟩
  | 10 => ⟨S2x100x1, .i32⟩
  | 11 => ⟨S2x100x1, .i1⟩
  | 12 => ⟨S2x100x1, .i1⟩
  | 13 => ⟨S_, .i1⟩
  | 14 => ⟨S2x100, .i1⟩
  | 15 => ⟨S2x100, .i32⟩
  | 16 => ⟨S_, .i32⟩
  | 17 => ⟨S2x100, .i32⟩
  | 18 => ⟨S2x100, .i32⟩
  | 19 => ⟨S2x100x1, .i1⟩
  | 20 => ⟨S_, .f32⟩
  | 21 => ⟨S_, .f32⟩
  | 22 => ⟨S2x100x4, .i1⟩
  | 23 => ⟨S2x100x4, .f32⟩
  | 24 => ⟨S2x100x4, .f32⟩
  | 25 => ⟨S_, .f32⟩
  | 26 => ⟨S_, .f32⟩
  | 27 => ⟨S2x100, .f32⟩
  | 28 => ⟨S2x100, .f32⟩
  | 29 => ⟨S_, .i32⟩
  | 30 => ⟨S_, .i32⟩
  | 31 => ⟨S2x100, .i32⟩
  | 32 => ⟨S2x100, .i32⟩
  | _ => ⟨S16384x2, .f32⟩

abbrev hbmTy (i : Nat) : BufTy := match i / 128 with
  | 0 => hbmTy0_0 i
  | 1 => hbmTy0_1 i
  | 2 => hbmTy0_2 i
  | _ => ⟨S16384x2, .f32⟩

abbrev bufTy : (tb : Table) → Fin (tcTables nBuf tb) → BufTy
  | .hbm, ⟨i, _⟩ => hbmTy i
  | .local _ .vmem, ⟨0, _⟩ => ⟨S1x2048x80, .f32⟩
  | .local _ .vmem, ⟨1, _⟩ => ⟨S1x2048x80, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x80, .f32⟩
  | .local _ .vmem, ⟨5, _⟩ => ⟨S1x2048x80, .f32⟩
  | .local _ .vmem, ⟨6, _⟩ => ⟨S1x1024x4, .f32⟩
  | .local _ .vmem, ⟨7, _⟩ => ⟨S1x1024x4, .f32⟩
  | .local _ .vmem, ⟨8, _⟩ => ⟨S1x4x1024, .f32⟩
  | .local _ .vmem, ⟨9, _⟩ => ⟨S1x4x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | _, _ => ⟨S16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_values : Ref sig .tc := ⟨.hbm, 11, rfl⟩
abbrev main_indices : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v7 : Ref sig .tc := ⟨.hbm, 52, rfl⟩
abbrev main_c_1 : Ref sig .tc := ⟨.hbm, 53, rfl⟩
abbrev main_v8 : Ref sig .tc := ⟨.hbm, 54, rfl⟩
abbrev main_v9 : Ref sig .tc := ⟨.hbm, 55, rfl⟩
abbrev main_cst : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_cst_2 : Ref sig .tc := ⟨.hbm, 61, rfl⟩
abbrev main_v14 : Ref sig .tc := ⟨.hbm, 62, rfl⟩
abbrev main_v15 : Ref sig .tc := ⟨.hbm, 63, rfl⟩
abbrev main_c_3 : Ref sig .tc := ⟨.hbm, 64, rfl⟩
abbrev main_v16 : Ref sig .tc := ⟨.hbm, 65, rfl⟩
abbrev main_v17 : Ref sig .tc := ⟨.hbm, 66, rfl⟩
abbrev main_c_4 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_call2_c : Ref sig .tc := ⟨.hbm, 74, rfl⟩
abbrev main_call2_v0 : Ref sig .tc := ⟨.hbm, 75, rfl⟩
abbrev main_call2_v1 : Ref sig .tc := ⟨.hbm, 76, rfl⟩
abbrev main_call2_c_0 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_c_1 : Ref sig .tc := ⟨.hbm, 81, rfl⟩
abbrev main_call2_c_2 : Ref sig .tc := ⟨.hbm, 82, rfl⟩
abbrev main_call2_v5 : Ref sig .tc := ⟨.hbm, 83, rfl⟩
abbrev main_call2_v6 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_call2_c_3 : Ref sig .tc := ⟨.hbm, 89, rfl⟩
abbrev main_call2_v11 : Ref sig .tc := ⟨.hbm, 90, rfl⟩
abbrev main_call2_v12 : Ref sig .tc := ⟨.hbm, 91, rfl⟩
abbrev main_call2_v13 : Ref sig .tc := ⟨.hbm, 92, rfl⟩
abbrev main_call2_cst : Ref sig .tc := ⟨.hbm, 93, rfl⟩
abbrev main_call2_v14 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_v27 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_cst_5 : Ref sig .tc := ⟨.hbm, 124, rfl⟩
abbrev main_v53 : Ref sig .tc := ⟨.hbm, 125, rfl⟩
abbrev main_v54 : Ref sig .tc := ⟨.hbm, 126, rfl⟩
abbrev main_cst_6 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_v55 : Ref sig .tc := ⟨.hbm, 132, rfl⟩
abbrev main_cst_7 : Ref sig .tc := ⟨.hbm, 133, rfl⟩
abbrev main_v56 : Ref sig .tc := ⟨.hbm, 134, rfl⟩
abbrev main_v57 : Ref sig .tc := ⟨.hbm, 135, rfl⟩
abbrev main_cst_8 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_call4_v3 : Ref sig .tc := ⟨.hbm, 140, rfl⟩
abbrev main_v58 : Ref sig .tc := ⟨.hbm, 141, rfl⟩
abbrev main_cst_9 : Ref sig .tc := ⟨.hbm, 142, rfl⟩
abbrev main_v59 : Ref sig .tc := ⟨.hbm, 143, rfl⟩
abbrev main_v60 : Ref sig .tc := ⟨.hbm, 144, rfl⟩
abbrev main_cst_10 : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_v61 : Ref sig .tc := ⟨.hbm, 150, rfl⟩
abbrev main_cst_11 : Ref sig .tc := ⟨.hbm, 151, rfl⟩
abbrev main_v62 : Ref sig .tc := ⟨.hbm, 152, rfl⟩
abbrev main_v63 : Ref sig .tc := ⟨.hbm, 153, rfl⟩
abbrev main_cst_12 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_call6_v3 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_cst_13 : Ref sig .tc := ⟨.hbm, 165, rfl⟩
abbrev main_call7_v0 : Ref sig .tc := ⟨.hbm, 166, rfl⟩
abbrev main_call7_v1 : Ref sig .tc := ⟨.hbm, 167, rfl⟩
abbrev main_v70 : Ref sig .tc := ⟨.hbm, 168, rfl⟩
abbrev main_v71 : Ref sig .tc := ⟨.hbm, 169, rfl⟩
abbrev main_cst_14 : Ref sig .tc := ⟨.hbm, 170, rfl⟩
abbrev main_call8_v0 : Ref sig .tc := ⟨.hbm, 171, rfl⟩
abbrev main_call8_v1 : Ref sig .tc := ⟨.hbm, 172, rfl⟩
abbrev main_v72 : Ref sig .tc := ⟨.hbm, 173, rfl⟩
abbrev main_cst_15 : Ref sig .tc := ⟨.hbm, 174, rfl⟩
abbrev main_v73 : Ref sig .tc := ⟨.hbm, 175, rfl⟩
abbrev main_v74 : Ref sig .tc := ⟨.hbm, 176, rfl⟩
abbrev main_cst_16 : Ref sig .tc := ⟨.hbm, 177, rfl⟩
abbrev main_v75 : Ref sig .tc := ⟨.hbm, 178, rfl⟩
abbrev main_v76 : Ref sig .tc := ⟨.hbm, 179, rfl⟩
abbrev main_v77 : Ref sig .tc := ⟨.hbm, 180, rfl⟩
abbrev main_v78 : Ref sig .tc := ⟨.hbm, 181, rfl⟩
abbrev main_v79 : Ref sig .tc := ⟨.hbm, 182, rfl⟩
abbrev main_v80 : Ref sig .tc := ⟨.hbm, 183, rfl⟩
abbrev main_c_17 : Ref sig .tc := ⟨.hbm, 184, rfl⟩
abbrev main_call9_v0 : Ref sig .tc := ⟨.hbm, 185, rfl⟩
abbrev main_v81 : Ref sig .tc := ⟨.hbm, 186, rfl⟩
abbrev main_v82 : Ref sig .tc := ⟨.hbm, 187, rfl⟩
abbrev main_v83 : Ref sig .tc := ⟨.hbm, 188, rfl⟩
abbrev main_c_18 : Ref sig .tc := ⟨.hbm, 189, rfl⟩
abbrev main_call10_v0 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_cst_19 : Ref sig .tc := ⟨.hbm, 196, rfl⟩
abbrev main_v89 : Ref sig .tc := ⟨.hbm, 197, rfl⟩
abbrev main_v90 : Ref sig .tc := ⟨.hbm, 198, rfl⟩
abbrev main_cst_20 : Ref sig .tc := ⟨.hbm, 199, rfl⟩
abbrev main_call11_v0 : Ref sig .tc := ⟨.hbm, 200, rfl⟩
abbrev main_call11_v1 : Ref sig .tc := ⟨.hbm, 201, rfl⟩
abbrev main_v91 : Ref sig .tc := ⟨.hbm, 202, rfl⟩
abbrev main_values_21 : Ref sig .tc := ⟨.hbm, 203, rfl⟩
abbrev main_indices_22 : Ref sig .tc := ⟨.hbm, 204, rfl⟩
abbrev main_cst_23 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_call12_c : Ref sig .tc := ⟨.hbm, 209, rfl⟩
abbrev main_call12_v0 : Ref sig .tc := ⟨.hbm, 210, rfl⟩
abbrev main_call12_v1 : Ref sig .tc := ⟨.hbm, 211, rfl⟩
abbrev main_call12_c_0 : Ref sig .tc := ⟨.hbm, 212, rfl⟩
abbrev main_call12_v2 : Ref sig .tc := ⟨.hbm, 213, rfl⟩
abbrev main_call12_v3 : Ref sig .tc := ⟨.hbm, 214, rfl⟩
abbrev main_call12_v4 : Ref sig .tc := ⟨.hbm, 215, rfl⟩
abbrev main_call12_c_1 : Ref sig .tc := ⟨.hbm, 216, rfl⟩
abbrev main_call12_c_2 : Ref sig .tc := ⟨.hbm, 217, rfl⟩
abbrev main_call12_v5 : Ref sig .tc := ⟨.hbm, 218, rfl⟩
abbrev main_call12_v6 : Ref sig .tc := ⟨.hbm, 219, rfl⟩
abbrev main_call12_v7 : Ref sig .tc := ⟨.hbm, 220, rfl⟩
abbrev main_call12_v8 : Ref sig .tc := ⟨.hbm, 221, rfl⟩
abbrev main_call12_v9 : Ref sig .tc := ⟨.hbm, 222, rfl⟩
abbrev main_call12_v10 : Ref sig .tc := ⟨.hbm, 223, rfl⟩
abbrev main_call12_c_3 : Ref sig .tc := ⟨.hbm, 224, rfl⟩
abbrev main_call12_v11 : Ref sig .tc := ⟨.hbm, 225, rfl⟩
abbrev main_call12_v12 : Ref sig .tc := ⟨.hbm, 226, rfl⟩
abbrev main_call12_v13 : Ref sig .tc := ⟨.hbm, 227, rfl⟩
abbrev main_call12_cst : Ref sig .tc := ⟨.hbm, 228, rfl⟩
abbrev main_call12_v14 : Ref sig .tc := ⟨.hbm, 229, rfl⟩
abbrev main_v95 : Ref sig .tc := ⟨.hbm, 230, rfl⟩
abbrev main_call13_c : Ref sig .tc := ⟨.hbm, 231, rfl⟩
abbrev main_call13_v0 : Ref sig .tc := ⟨.hbm, 232, rfl⟩
abbrev main_call13_v1 : Ref sig .tc := ⟨.hbm, 233, rfl⟩
abbrev main_call13_c_0 : Ref sig .tc := ⟨.hbm, 234, rfl⟩
abbrev main_call13_v2 : Ref sig .tc := ⟨.hbm, 235, rfl⟩
abbrev main_call13_v3 : Ref sig .tc := ⟨.hbm, 236, rfl⟩
abbrev main_call13_v4 : Ref sig .tc := ⟨.hbm, 237, rfl⟩
abbrev main_call13_v5 : Ref sig .tc := ⟨.hbm, 238, rfl⟩
abbrev main_call13_c_1 : Ref sig .tc := ⟨.hbm, 239, rfl⟩
abbrev main_call13_c_2 : Ref sig .tc := ⟨.hbm, 240, rfl⟩
abbrev main_call13_v6 : Ref sig .tc := ⟨.hbm, 241, rfl⟩
abbrev main_call13_v7 : Ref sig .tc := ⟨.hbm, 242, rfl⟩
abbrev main_call13_v8 : Ref sig .tc := ⟨.hbm, 243, rfl⟩
abbrev main_call13_v9 : Ref sig .tc := ⟨.hbm, 244, rfl⟩
abbrev main_call13_v10 : Ref sig .tc := ⟨.hbm, 245, rfl⟩
abbrev main_call13_v11 : Ref sig .tc := ⟨.hbm, 246, rfl⟩
abbrev main_call13_c_3 : Ref sig .tc := ⟨.hbm, 247, rfl⟩
abbrev main_call13_v12 : Ref sig .tc := ⟨.hbm, 248, rfl⟩
abbrev main_call13_v13 : Ref sig .tc := ⟨.hbm, 249, rfl⟩
abbrev main_call13_cst : Ref sig .tc := ⟨.hbm, 250, rfl⟩
abbrev main_call13_v14 : Ref sig .tc := ⟨.hbm, 251, rfl⟩
abbrev main_v96 : Ref sig .tc := ⟨.hbm, 252, rfl⟩
abbrev main_call14_c : Ref sig .tc := ⟨.hbm, 253, rfl⟩
abbrev main_call14_v0 : Ref sig .tc := ⟨.hbm, 254, rfl⟩
abbrev main_call14_v1 : Ref sig .tc := ⟨.hbm, 255, rfl⟩
abbrev main_call14_c_0 : Ref sig .tc := ⟨.hbm, 256, rfl⟩
abbrev main_call14_v2 : Ref sig .tc := ⟨.hbm, 257, rfl⟩
abbrev main_call14_v3 : Ref sig .tc := ⟨.hbm, 258, rfl⟩
abbrev main_call14_v4 : Ref sig .tc := ⟨.hbm, 259, rfl⟩
abbrev main_call14_v5 : Ref sig .tc := ⟨.hbm, 260, rfl⟩
abbrev main_call14_c_1 : Ref sig .tc := ⟨.hbm, 261, rfl⟩
abbrev main_call14_c_2 : Ref sig .tc := ⟨.hbm, 262, rfl⟩
abbrev main_call14_v6 : Ref sig .tc := ⟨.hbm, 263, rfl⟩
abbrev main_call14_v7 : Ref sig .tc := ⟨.hbm, 264, rfl⟩
abbrev main_call14_v8 : Ref sig .tc := ⟨.hbm, 265, rfl⟩
abbrev main_call14_v9 : Ref sig .tc := ⟨.hbm, 266, rfl⟩
abbrev main_call14_v10 : Ref sig .tc := ⟨.hbm, 267, rfl⟩
abbrev main_call14_v11 : Ref sig .tc := ⟨.hbm, 268, rfl⟩
abbrev main_call14_c_3 : Ref sig .tc := ⟨.hbm, 269, rfl⟩
abbrev main_call14_v12 : Ref sig .tc := ⟨.hbm, 270, rfl⟩
abbrev main_call14_v13 : Ref sig .tc := ⟨.hbm, 271, rfl⟩
abbrev main_call14_c_4 : Ref sig .tc := ⟨.hbm, 272, rfl⟩
abbrev main_call14_v14 : Ref sig .tc := ⟨.hbm, 273, rfl⟩
abbrev main_v97 : Ref sig .tc := ⟨.hbm, 274, rfl⟩
abbrev main_v98 : Ref sig .tc := ⟨.hbm, 275, rfl⟩
abbrev main_cst_24 : Ref sig .tc := ⟨.hbm, 276, rfl⟩
abbrev main_call15_v0 : Ref sig .tc := ⟨.hbm, 277, rfl⟩
abbrev main_call15_v1 : Ref sig .tc := ⟨.hbm, 278, rfl⟩
abbrev main_call15_v2 : Ref sig .tc := ⟨.hbm, 279, rfl⟩
abbrev main_v99 : Ref sig .tc := ⟨.hbm, 280, rfl⟩
abbrev main_cst_25 : Ref sig .tc := ⟨.hbm, 281, rfl⟩
abbrev main_call16_v0 : Ref sig .tc := ⟨.hbm, 282, rfl⟩
abbrev main_call16_v1 : Ref sig .tc := ⟨.hbm, 283, rfl⟩
abbrev main_v100 : Ref sig .tc := ⟨.hbm, 284, rfl⟩
abbrev main_c_26 : Ref sig .tc := ⟨.hbm, 285, rfl⟩
abbrev main_call17_v0 : Ref sig .tc := ⟨.hbm, 286, rfl⟩
abbrev main_call17_v1 : Ref sig .tc := ⟨.hbm, 287, rfl⟩
abbrev main_v101 : Ref sig .tc := ⟨.hbm, 288, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![2], ![false]⟩

@[reducible] def k1_t1_loop : Scf.Loop 32 :=
  let c0_i32 : BitVec 32 := 0#32
  let c1000_i32 : BitVec 32 := 1000#32
  let v50 : BitVec 32 := Scalar.addi c0_i32 c1000_i32
  let c1_i32 : BitVec 32 := 1#32
  ⟨c0_i32, v50, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let v55 : Index := Scalar.indexCast arg6
  let c0_16 : Index := 0#32
  ![v55.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S16384x2 : Shape := ⟨2, ![16384, 2]⟩
abbrev S2x80x128x128 : Shape := ⟨4, ![2, 80, 128, 128]⟩
abbrev S2x4x128x128 : Shape := ⟨4, ![2, 4, 128, 128]⟩
abbrev S2x1x128x128 : Shape := ⟨4, ![2, 1, 128, 128]⟩
abbrev S2x2 : Shape := ⟨2, ![2, 2]⟩
abbrev S2x128x128x80 : Shape := ⟨4, ![2, 128, 128, 80]⟩
abbrev S2x16384x80 : Shape := ⟨3, ![2, 16384, 80]⟩
abbrev S_ : Shape := ⟨0, ![]⟩
abbrev S1 : Shape := ⟨1, ![1]⟩
abbrev S2x16384 : Shape := ⟨2, ![2, 16384]⟩
abbrev S2x128x128x4 : Shape := ⟨4, ![2, 128, 128, 4]⟩
abbrev S2x16384x4 : Shape := ⟨3, ![2, 16384, 4]⟩
abbrev S2x128x128x1 : Shape := ⟨4, ![2, 128, 128, 1]⟩
abbrev S2x16384x1 : Shape := ⟨3, ![2, 16384, 1]⟩
abbrev S2x1310720 : Shape := ⟨2, ![2, 1310720]⟩
abbrev S2x1000 : Shape := ⟨2, ![2, 1000]⟩
abbrev S2x1000x1 : Shape := ⟨3, ![2, 1000, 1]⟩
abbrev S2x1000x2 : Shape := ⟨3, ![2, 1000, 2]⟩
abbrev S1x1x1 : Shape := ⟨3, ![1, 1, 1]⟩
abbrev S2x1000x4 : Shape := ⟨3, ![2, 1000, 4]⟩
abbrev S2x1 : Shape := ⟨2, ![2, 1]⟩
abbrev S2 : Shape := ⟨1, ![2]⟩
abbrev S2x1000x1x2 : Shape := ⟨4, ![2, 1000, 1, 2]⟩
abbrev S2x1x1000x2 : Shape := ⟨4, ![2, 1, 1000, 2]⟩
abbrev S2x1000x1000x2 : Shape := ⟨4, ![2, 1000, 1000, 2]⟩
abbrev S2x1000x1000x1 : Shape := ⟨4, ![2, 1000, 1000, 1]⟩
abbrev S2x1000x1000 : Shape := ⟨3, ![2, 1000, 1000]⟩
abbrev S2x1x1000 : Shape := ⟨3, ![2, 1, 1000]⟩
abbrev S1000 : Shape := ⟨1, ![1000]⟩
abbrev S1x1000 : Shape := ⟨2, ![1, 1000]⟩
abbrev S2x100 : Shape := ⟨2, ![2, 100]⟩
abbrev S2x100x1 : Shape := ⟨3, ![2, 100, 1]⟩
abbrev S2x100x4 : Shape := ⟨3, ![2, 100, 4]⟩

abbrev nBuf : Space → Nat
  | .hbm => 483
  | .vmem => 0
  | .smem => 0
  | _ => 0

abbrev hbmTy0_0 (i : Nat) : BufTy := match i % 128 with
  | 0 => ⟨S16384x2, .f32⟩
  | 1 => ⟨S2x80x128x128, .f32⟩
  | 2 => ⟨S2x4x128x128, .f32⟩
  | 3 => ⟨S2x1x128x128, .f32⟩
  | 4 => ⟨S2x2, .i32⟩
  | 5 => ⟨S2x128x128x80, .f32⟩
  | 6 => ⟨S2x16384x80, .f32⟩
  | 7 => ⟨S2x16384x80, .f32⟩
  | 8 => ⟨S2x16384x80, .f32⟩
  | 9 => ⟨S_, .f32⟩
  | 10 => ⟨S2x16384x80, .f32⟩
  | 11 => ⟨S2x16384x80, .f32⟩
  | 12 => ⟨S_, .f32⟩
  | 13 => ⟨S2x16384x80, .f32⟩
  | 14 => ⟨S2x16384x80, .f32⟩
  | 15 => ⟨S_, .i32⟩
  | 16 => ⟨S1, .i32⟩
  | 17 => ⟨S_, .f32⟩
  | 18 => ⟨S2x16384, .f32⟩
  | 19 => ⟨S2x16384x80, .f32⟩
  | 20 => ⟨S2x128x128x4, .f32⟩
  | 21 => ⟨S2x16384x4, .f32⟩
  | 22 => ⟨S_, .f32⟩
  | 23 => ⟨S2x16384x4, .f32⟩
  | 24 => ⟨S2x16384x4, .f32⟩
  | 25 => ⟨S2x128x128x1, .f32⟩
  | 26 => ⟨S2x16384, .f32⟩
  | 27 => ⟨S2x16384, .f32⟩
  | 28 => ⟨S2x16384, .f32⟩
  | 29 => ⟨S_, .f32⟩
  | 30 => ⟨S2x16384, .f32⟩
  | 31 => ⟨S2x16384, .f32⟩
  | 32 => ⟨S_, .f32⟩
  | 33 => ⟨S2x16384, .f32⟩
  | 34 => ⟨S2x16384, .f32⟩
  | 35 => ⟨S_, .f32⟩
  | 36 => ⟨S2x16384x80, .f32⟩
  | 37 => ⟨S2x16384x80, .i1⟩
  | 38 => ⟨S2x16384x1, .f32⟩
  | 39 => ⟨S2x16384x80, .f32⟩
  | 40 => ⟨S2x16384x80, .f32⟩
  | 41 => ⟨S_, .f32⟩
  | 42 => ⟨S_, .f32⟩
  | 43 => ⟨S2x16384x80, .f32⟩
  | 44 => ⟨S2x16384x80, .f32⟩
  | 45 => ⟨S2x1310720, .f32⟩
  | 46 => ⟨S2x1000, .f32⟩
  | 47 => ⟨S2x1000, .i32⟩
  | 48 => ⟨S_, .i32⟩
  | 49 => ⟨S_, .i32⟩
  | 50 => ⟨S2x1000, .i32⟩
  | 51 => ⟨S2x1000, .i32⟩
  | 52 => ⟨S2x1000, .i32⟩
  | 53 => ⟨S_, .i32⟩
  | 54 => ⟨S2x1000, .i32⟩
  | 55 => ⟨S2x1000, .i1⟩
  | 56 => ⟨S2x1000, .i32⟩
  | 57 => ⟨S2x1000, .i32⟩
  | 58 => ⟨S_, .i32⟩
  | 59 => ⟨S2x1000, .i32⟩
  | 60 => ⟨S2x1000, .i1⟩
  | 61 => ⟨S2x1000, .i1⟩
  | 62 => ⟨S_, .i32⟩
  | 63 => ⟨S2x1000, .i32⟩
  | 64 => ⟨S2x1000, .i32⟩
  | 65 => ⟨S2x1000, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S2x1000, .i32⟩
  | 73 => ⟨S2x1000, .i32⟩
  | 74 => ⟨S_, .i32⟩
  | 75 => ⟨S2x1000, .i32⟩
  | 76 => ⟨S2x1000, .i1⟩
  | 77 => ⟨S_, .i32⟩
  | 78 => ⟨S2x1000, .i32⟩
  | 79 => ⟨S2x1000, .i1⟩
  | 80 => ⟨S_, .i32⟩
  | 81 => ⟨S_, .i1⟩
  | 82 => ⟨S2x1000, .i1⟩
  | 83 => ⟨S2x1000, .i1⟩
  | 84 => ⟨S2x1000, .i1⟩
  | 85 => ⟨S2x1000, .i32⟩
  | 86 => ⟨S2x1000, .i32⟩
  | 87 => ⟨S2x1000, .i32⟩
  | 88 => ⟨S_, .i32⟩
  | 89 => ⟨S2x1000, .i32⟩
  | 90 => ⟨S2x1000, .i32⟩
  | 91 => ⟨S_, .f32⟩
  | 92 => ⟨S2x1000, .f32⟩
  | 93 => ⟨S2x1000, .i1⟩
  | 94 => ⟨S_, .i32⟩
  | 95 => ⟨S2x1000, .i32⟩
  | 96 => ⟨S2x1000, .i1⟩
  | 97 => ⟨S_, .i32⟩
  | 98 => ⟨S2x1000, .i32⟩
  | 99 => ⟨S2x1000, .i32⟩
  | 100 => ⟨S2x1000, .i32⟩
  | 101 => ⟨S2x1000x1, .i32⟩
  | 102 => ⟨S2x1000x2, .f32⟩
  | 103 => ⟨S2x1000x1, .i32⟩
  | 104 => ⟨S_, .i32⟩
  | 105 => ⟨S2x1000x1, .i32⟩
  | 106 => ⟨S2x1000x1, .i1⟩
  | 107 => ⟨S_, .i32⟩
  | 108 => ⟨S2x1000x1, .i32⟩
  | 109 => ⟨S2x1000x1, .i32⟩
  | 110 => ⟨S2x1000x1, .i32⟩
  | 111 => ⟨S1, .i32⟩
  | 112 => ⟨S_, .i32⟩
  | 113 => ⟨S2x1000x1, .i32⟩
  | 114 => ⟨S2x1000x1, .i1⟩
  | 115 => ⟨S1x1x1, .i32⟩
  | 116 => ⟨S2x1000x1, .i32⟩
  | 117 => ⟨S2x1000x1, .i1⟩
  | 118 => ⟨S2x1000x1, .i1⟩
  | 119 => ⟨S_, .i1⟩
  | 120 => ⟨S2x1000, .i1⟩
  | 121 => ⟨S2x1000x4, .f32⟩
  | 122 => ⟨S2x1000x4, .i1⟩
  | 123 => ⟨S_, .f32⟩
  | 124 => ⟨S2x1000x4, .f32⟩
  | 125 => ⟨S2x1000x4, .f32⟩
  | 126 => ⟨S2x1000x1, .f32⟩
  | 127 => ⟨S2x1000, .f32⟩
  | _ => ⟨S16384x2, .f32⟩

abbrev hbmTy0_1 (i : Nat) : BufTy := match i % 128 with
  | 0 => ⟨S2x1000x1, .f32⟩
  | 1 => ⟨S2x1000, .f32⟩
  | 2 => ⟨S2x1000, .f32⟩
  | 3 => ⟨S2x1000x1, .f32⟩
  | 4 => ⟨S2x1000, .f32⟩
  | 5 => ⟨S2x1000x1, .f32⟩
  | 6 => ⟨S2x1000, .f32⟩
  | 7 => ⟨S2x1000, .f32⟩
  | 8 => ⟨S2x1000x1, .f32⟩
  | 9 => ⟨S2x1000, .f32⟩
  | 10 => ⟨S2x1000x1, .f32⟩
  | 11 => ⟨S2x1000, .f32⟩
  | 12 => ⟨S2x1000, .f32⟩
  | 13 => ⟨S2x1000x1, .f32⟩
  | 14 => ⟨S2x1000, .f32⟩
  | 15 => ⟨S2x1000x1, .f32⟩
  | 16 => ⟨S2x1000, .f32⟩
  | 17 => ⟨S2x1000, .f32⟩
  | 18 => ⟨S2x1, .i32⟩
  | 19 => ⟨S2, .i32⟩
  | 20 => ⟨S2, .f32⟩
  | 21 => ⟨S2x1, .f32⟩
  | 22 => ⟨S2x1, .i32⟩
  | 23 => ⟨S2, .i32⟩
  | 24 => ⟨S2, .f32⟩
  | 25 => ⟨S2x1, .f32⟩
  | 26 => ⟨S_, .f32⟩
  | 27 => ⟨S2x1, .f32⟩
  | 28 => ⟨S2x1, .f32⟩
  | 29 => ⟨S_, .f32⟩
  | 30 => ⟨S_, .f32⟩
  | 31 => ⟨S2x1000, .f32⟩
  | 32 => ⟨S2x1000, .f32⟩
  | 33 => ⟨S2x1000, .f32⟩
  | 34 => ⟨S2x1000, .f32⟩
  | 35 => ⟨S_, .f32⟩
  | 36 => ⟨S2x1, .f32⟩
  | 37 => ⟨S2x1, .f32⟩
  | 38 => ⟨S_, .f32⟩
  | 39 => ⟨S_, .f32⟩
  | 40 => ⟨S2x1000, .f32⟩
  | 41 => ⟨S2x1000, .f32⟩
  | 42 => ⟨S2x1000, .f32⟩
  | 43 => ⟨S2x1000, .f32⟩
  | 44 => ⟨S_, .f32⟩
  | 45 => ⟨S2x1, .f32⟩
  | 46 => ⟨S2x1, .f32⟩
  | 47 => ⟨S_, .f32⟩
  | 48 => ⟨S_, .f32⟩
  | 49 => ⟨S2x1000, .f32⟩
  | 50 => ⟨S2x1000, .f32⟩
  | 51 => ⟨S2x1000, .f32⟩
  | 52 => ⟨S2x1000, .f32⟩
  | 53 => ⟨S_, .f32⟩
  | 54 => ⟨S2x1, .f32⟩
  | 55 => ⟨S2x1, .f32⟩
  | 56 => ⟨S_, .f32⟩
  | 57 => ⟨S_, .f32⟩
  | 58 => ⟨S2x1000, .f32⟩
  | 59 => ⟨S2x1000, .f32⟩
  | 60 => ⟨S2x1000, .f32⟩
  | 61 => ⟨S2x1000, .f32⟩
  | 62 => ⟨S2x1000x1, .f32⟩
  | 63 => ⟨S2x1000x1, .f32⟩
  | 64 => ⟨S2x1000x1, .f32⟩
  | 65 => ⟨S2x1000x1, .f32⟩
  | 66 => ⟨S2x1000x4, .f32⟩
  | 67 => ⟨S2x1000, .f32⟩
  | 68 => ⟨S_, .f32⟩
  | 69 => ⟨S2x1000, .f32⟩
  | 70 => ⟨S2x1000, .f32⟩
  | 71 => ⟨S_, .f32⟩
  | 72 => ⟨S2x1000, .f32⟩
  | 73 => ⟨S2x1000, .i1⟩
  | 74 => ⟨S2x1000, .i1⟩
  | 75 => ⟨S2x1000, .f32⟩
  | 76 => ⟨S_, .f32⟩
  | 77 => ⟨S2x1000, .f32⟩
  | 78 => ⟨S2x1000, .f32⟩
  | 79 => ⟨S_, .f32⟩
  | 80 => ⟨S2x1000, .f32⟩
  | 81 => ⟨S2x1000, .i1⟩
  | 82 => ⟨S2x1000, .i1⟩
  | 83 => ⟨S_, .f32⟩
  | 84 => ⟨S_, .f32⟩
  | 85 => ⟨S2x1000, .f32⟩
  | 86 => ⟨S2x1000, .f32⟩
  | 87 => ⟨S2x1000, .f32⟩
  | 88 => ⟨S_, .f32⟩
  | 89 => ⟨S_, .f32⟩
  | 90 => ⟨S2x1000, .f32⟩
  | 91 => ⟨S2x1000, .f32⟩
  | 92 => ⟨S_, .f32⟩
  | 93 => ⟨S_, .f32⟩
  | 94 => ⟨S2x1000, .f32⟩
  | 95 => ⟨S_, .f32⟩
  | 96 => ⟨S_, .f32⟩
  | 97 => ⟨S2x1000, .f32⟩
  | 98 => ⟨S2x1000, .f32⟩
  | 99 => ⟨S2x1000x1, .f32⟩
  | 100 => ⟨S2x1000x4, .f32⟩
  | 101 => ⟨S2x1000x4, .f32⟩
  | 102 => ⟨S2x1000, .f32⟩
  | 103 => ⟨S2x1000, .i32⟩
  | 104 => ⟨S2x1000, .f32⟩
  | 105 => ⟨S2x1000, .i32⟩
  | 106 => ⟨S2x1000x1, .i32⟩
  | 107 => ⟨S_, .i32⟩
  | 108 => ⟨S2x1000x1, .i32⟩
  | 109 => ⟨S2x1000x1, .i1⟩
  | 110 => ⟨S_, .i32⟩
  | 111 => ⟨S2x1000x1, .i32⟩
  | 112 => ⟨S2x1000x1, .i32⟩
  | 113 => ⟨S2x1000x1, .i32⟩
  | 114 => ⟨S1, .i32⟩
  | 115 => ⟨S_, .i32⟩
  | 116 => ⟨S2x1000x1, .i32⟩
  | 117 => ⟨S2x1000x1, .i1⟩
  | 118 => ⟨S1x1x1, .i32⟩
  | 119 => ⟨S2x1000x1, .i32⟩
  | 120 => ⟨S2x1000x1, .i1⟩
  | 121 => ⟨S2x1000x1, .i1⟩
  | 122 => ⟨S_, .i1⟩
  | 123 => ⟨S2x1000, .i1⟩
  | 124 => ⟨S2x1000x4, .f32⟩
  | 125 => ⟨S2x1000x4, .i1⟩
  | 126 => ⟨S_, .f32⟩
  | 127 => ⟨S2x1000x4, .f32⟩
  | _ => ⟨S16384x2, .f32⟩

abbrev hbmTy0_2 (i : Nat) : BufTy := match i % 128 with
  | 0 => ⟨S2x1000x4, .f32⟩
  | 1 => ⟨S_, .i32⟩
  | 2 => ⟨S2x1000, .i32⟩
  | 3 => ⟨S2x1000, .i1⟩
  | 4 => ⟨S_, .i32⟩
  | 5 => ⟨S2x1000, .i32⟩
  | 6 => ⟨S2x1000, .i32⟩
  | 7 => ⟨S2x1000, .i32⟩
  | 8 => ⟨S2x1000x1, .i32⟩
  | 9 => ⟨S1, .i32⟩
  | 10 => ⟨S_, .i32⟩
  | 11 => ⟨S2x1000x1, .i32⟩
  | 12 => ⟨S2x1000x1, .i1⟩
  | 13 => ⟨S1x1x1, .i32⟩
  | 14 => ⟨S2x1000x1, .i32⟩
  | 15 => ⟨S2x1000x1, .i1⟩
  | 16 => ⟨S2x1000x1, .i1⟩
  | 17 => ⟨S_, .i1⟩
  | 18 => ⟨S2x1000, .i1⟩
  | 19 => ⟨S2x1000, .i1⟩
  | 20 => ⟨S_, .i1⟩
  | 21 => ⟨S2x1000, .i1⟩
  | 22 => ⟨S2x1000, .i1⟩
  | 23 => ⟨S2x1000x1, .f32⟩
  | 24 => ⟨S2x1000, .f32⟩
  | 25 => ⟨S2x1000x1, .f32⟩
  | 26 => ⟨S2x1000, .f32⟩
  | 27 => ⟨S2x1000, .f32⟩
  | 28 => ⟨S2x1000x1, .f32⟩
  | 29 => ⟨S2x1000, .f32⟩
  | 30 => ⟨S2x1000x1, .f32⟩
  | 31 => ⟨S2x1000, .f32⟩
  | 32 => ⟨S2x1000, .f32⟩
  | 33 => ⟨S2x1000, .f32⟩
  | 34 => ⟨S2x1000x2, .f32⟩
  | 35 => ⟨S2x1000x1x2, .f32⟩
  | 36 => ⟨S2x1000x2, .f32⟩
  | 37 => ⟨S2x1x1000x2, .f32⟩
  | 38 => ⟨S2x1000x1000x2, .f32⟩
  | 39 => ⟨S2x1000x1000x2, .f32⟩
  | 40 => ⟨S2x1000x1000x2, .f32⟩
  | 41 => ⟨S2x1000x2, .f32⟩
  | 42 => ⟨S2x1000x1x2, .f32⟩
  | 43 => ⟨S2x1000x2, .f32⟩
  | 44 => ⟨S2x1x1000x2, .f32⟩
  | 45 => ⟨S2x1000x1000x2, .f32⟩
  | 46 => ⟨S2x1000x1000x2, .f32⟩
  | 47 => ⟨S2x1000x1000x2, .f32⟩
  | 48 => ⟨S2x1000x1000x2, .f32⟩
  | 49 => ⟨S_, .f32⟩
  | 50 => ⟨S_, .f32⟩
  | 51 => ⟨S2x1000x1000x2, .f32⟩
  | 52 => ⟨S2x1000x1000x2, .f32⟩
  | 53 => ⟨S2x1000x1000x1, .f32⟩
  | 54 => ⟨S2x1000x1000, .f32⟩
  | 55 => ⟨S2x1000x1000x1, .f32⟩
  | 56 => ⟨S2x1000x1000, .f32⟩
  | 57 => ⟨S2x1000x1000, .f32⟩
  | 58 => ⟨S2x1000x1, .f32⟩
  | 59 => ⟨S2x1x1000, .f32⟩
  | 60 => ⟨S2x1000x1000, .f32⟩
  | 61 => ⟨S2x1000x1000, .f32⟩
  | 62 => ⟨S2x1000x1000, .f32⟩
  | 63 => ⟨S2x1000x1000, .f32⟩
  | 64 => ⟨S_, .f32⟩
  | 65 => ⟨S_, .f32⟩
  | 66 => ⟨S2x1000x1000, .f32⟩
  | 67 => ⟨S2x1000x1000, .f32⟩
  | 68 => ⟨S2x1000x1000, .f32⟩
  | 69 => ⟨S1000, .i32⟩
  | 70 => ⟨S_, .i32⟩
  | 71 => ⟨S_, .i32⟩
  | 72 => ⟨S2x1000x1000, .f32⟩
  | 73 => ⟨S1000, .i32⟩
  | 74 => ⟨S_, .i32⟩
  | 75 => ⟨S_, .i32⟩
  | 76 => ⟨S2x1000, .i1⟩
  | 77 => ⟨S_, .i32⟩
  | 78 => ⟨S_, .i1⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S2x1x1000, .f32⟩
  | 90 => ⟨S2x1000, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i32⟩
  | 98 => ⟨S2x1, .i1⟩
  | 99 => ⟨S_, .f32⟩
  | 100 => ⟨S2x1000, .f32⟩
  | 101 => ⟨S2x1000, .i1⟩
  | 102 => ⟨S_, .i32⟩
  | 103 => ⟨S1000, .i32⟩
  | 104 => ⟨S1000, .i1⟩
  | 105 => ⟨S1x1000, .i1⟩
  | 106 => ⟨S2x1000, .i1⟩
  | 107 => ⟨S2x1000, .i1⟩
  | 108 => ⟨S2x1000, .i1⟩
  | 109 => ⟨S2x1000, .i1⟩
  | 110 => ⟨S2x1000, .i1⟩
  | 111 => ⟨S2x1000, .i1⟩
  | 112 => ⟨S_, .i32⟩
  | 113 => ⟨S_, .i32⟩
  | 114 => ⟨S2, .i32⟩
  | 115 => ⟨S2x1, .i32⟩
  | 116 => ⟨S_, .i1⟩
  | 117 => ⟨S2x1000, .i1⟩
  | 118 => ⟨S_, .i32⟩
  | 119 => ⟨S2x1, .i32⟩
  | 120 => ⟨S2x1, .i1⟩
  | 121 => ⟨S_, .i32⟩
  | 122 => ⟨S2x1, .i32⟩
  | 123 => ⟨S2x1, .i32⟩
  | 124 => ⟨S2x1, .i32⟩
  | 125 => ⟨S_, .i32⟩
  | 126 => ⟨S2x1000, .i32⟩
  | 127 => ⟨S2x1000, .i1⟩
  | _ => ⟨S16384x2, .f32⟩

abbrev hbmTy0_3 (i : Nat) : BufTy := match i % 128 with
  | 0 => ⟨S_, .i32⟩
  | 1 => ⟨S2x1000, .i32⟩
  | 2 => ⟨S2x1000, .i32⟩
  | 3 => ⟨S2x1000, .i32⟩
  | 4 => ⟨S2x1000, .i32⟩
  | 5 => ⟨S2x1000x1, .i32⟩
  | 6 => ⟨S2x1000x1, .i32⟩
  | 7 => ⟨S2x1000x2, .i32⟩
  | 8 => ⟨S2x1000, .i1⟩
  | 9 => ⟨S_, .f32⟩
  | 10 => ⟨S_, .f32⟩
  | 11 => ⟨S2x1000, .f32⟩
  | 12 => ⟨S2x1000, .f32⟩
  | 13 => ⟨S2x100, .f32⟩
  | 14 => ⟨S2x100, .i32⟩
  | 15 => ⟨S_, .f32⟩
  | 16 => ⟨S2x100, .f32⟩
  | 17 => ⟨S2x100, .i1⟩
  | 18 => ⟨S2x100x1, .i32⟩
  | 19 => ⟨S_, .i32⟩
  | 20 => ⟨S2x100x1, .i32⟩
  | 21 => ⟨S2x100x1, .i1⟩
  | 22 => ⟨S_, .i32⟩
  | 23 => ⟨S2x100x1, .i32⟩
  | 24 => ⟨S2x100x1, .i32⟩
  | 25 => ⟨S2x100x1, .i32⟩
  | 26 => ⟨S1, .i32⟩
  | 27 => ⟨S_, .i32⟩
  | 28 => ⟨S2x100x1, .i32⟩
  | 29 => ⟨S2x100x1, .i1⟩
  | 30 => ⟨S1x1x1, .i32⟩
  | 31 => ⟨S2x100x1, .i32⟩
  | 32 => ⟨S2x100x1, .i1⟩
  | 33 => ⟨S2x100x1, .i1⟩
  | 34 => ⟨S_, .i1⟩
  | 35 => ⟨S2x100, .i1⟩
  | 36 => ⟨S2x100x4, .f32⟩
  | 37 => ⟨S2x100x4, .i1⟩
  | 38 => ⟨S_, .f32⟩
  | 39 => ⟨S2x100x4, .f32⟩
  | 40 => ⟨S2x100x4, .f32⟩
  | 41 => ⟨S_, .i32⟩
  | 42 => ⟨S2x100, .i32⟩
  | 43 => ⟨S2x100, .i1⟩
  | 44 => ⟨S_, .i32⟩
  | 45 => ⟨S2x100, .i32⟩
  | 46 => ⟨S2x100, .i32⟩
  | 47 => ⟨S2x100, .i32⟩
  | 48 => ⟨S2x100x1, .i32⟩
  | 49 => ⟨S1, .i32⟩
  | 50 => ⟨S_, .i32⟩
  | 51 => ⟨S2x100x1, .i32⟩
  | 52 => ⟨S2x100x1, .i1⟩
  | 53 => ⟨S1x1x1, .i32⟩
  | 54 => ⟨S2x100x1, .i32⟩
  | 55 => ⟨S2x100x1, .i1⟩
  | 56 => ⟨S2x100x1, .i1⟩
  | 57 => ⟨S_, .i1⟩
  | 58 => ⟨S2x100, .i1⟩
  | 59 => ⟨S2x100, .f32⟩
  | 60 => ⟨S_, .f32⟩
  | 61 => ⟨S2x100, .f32⟩
  | 62 => ⟨S2x100, .f32⟩
  | 63 => ⟨S_, .i32⟩
  | 64 => ⟨S2x100, .i32⟩
  | 65 => ⟨S2x100, .i1⟩
  | 66 => ⟨S_, .i32⟩
  | 67 => ⟨S2x100, .i32⟩
  | 68 => ⟨S2x100, .i32⟩
  | 69 => ⟨S2x100, .i32⟩
  | 70 => ⟨S2x100x1, .i32⟩
  | 71 => ⟨S1, .i32⟩
  | 72 => ⟨S_, .i32⟩
  | 73 => ⟨S2x100x1, .i32⟩
  | 74 => ⟨S2x100x1, .i1⟩
  | 75 => ⟨S1x1x1, .i32⟩
  | 76 => ⟨S2x100x1, .i32⟩
  | 77 => ⟨S2x100x1, .i1⟩
  | 78 => ⟨S2x100x1, .i1⟩
  | 79 => ⟨S_, .i1⟩
  | 80 => ⟨S2x100, .i1⟩
  | 81 => ⟨S2x100, .i32⟩
  | 82 => ⟨S_, .i32⟩
  | 83 => ⟨S2x100, .i32⟩
  | 84 => ⟨S2x100, .i32⟩
  | 85 => ⟨S2x100x1, .i1⟩
  | 86 => ⟨S_, .f32⟩
  | 87 => ⟨S_, .f32⟩
  | 88 => ⟨S2x100x4, .i1⟩
  | 89 => ⟨S2x100x4, .f32⟩
  | 90 => ⟨S2x100x4, .f32⟩
  | 91 => ⟨S_, .f32⟩
  | 92 => ⟨S_, .f32⟩
  | 93 => ⟨S2x100, .f32⟩
  | 94 => ⟨S2x100, .f32⟩
  | 95 => ⟨S_, .i32⟩
  | 96 => ⟨S_, .i32⟩
  | 97 => ⟨S2x100, .i32⟩
  | 98 => ⟨S2x100, .i32⟩
  | _ => ⟨S16384x2, .f32⟩

abbrev hbmTy (i : Nat) : BufTy := match i / 128 with
  | 0 => hbmTy0_0 i
  | 1 => hbmTy0_1 i
  | 2 => hbmTy0_2 i
  | 3 => hbmTy0_3 i
  | _ => ⟨S16384x2, .f32⟩

abbrev bufTy : (tb : Table) → Fin (tcTables nBuf tb) → BufTy
  | .hbm, ⟨i, _⟩ => hbmTy i
  | _, _ => ⟨S16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_call0_v0 : Ref sig .tc := ⟨.hbm, 42, rfl⟩
abbrev main_call0_v1 : Ref sig .tc := ⟨.hbm, 43, rfl⟩
abbrev main_v28 : Ref sig .tc := ⟨.hbm, 44, rfl⟩
abbrev main_v29 : Ref sig .tc := ⟨.hbm, 45, rfl⟩
abbrev main_values : Ref sig .tc := ⟨.hbm, 46, rfl⟩
abbrev main_indices : Ref sig .tc := ⟨.hbm, 47, rfl⟩
abbrev main_c_7 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_c : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_0 : Ref sig .tc := ⟨.hbm, 62, rfl⟩
abbrev main_call1_v12 : Ref sig .tc := ⟨.hbm, 63, rfl⟩
abbrev main_call1_v13 : Ref sig .tc := ⟨.hbm, 64, rfl⟩
abbrev main_v30 : Ref sig .tc := ⟨.hbm, 65, rfl⟩
abbrev main_c_8 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_v5 : Ref sig .tc := ⟨.hbm, 75, rfl⟩
abbrev main_call2_v6 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_c_3 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_v31 : Ref sig .tc := ⟨.hbm, 87, rfl⟩
abbrev main_c_9 : Ref sig .tc := ⟨.hbm, 88, rfl⟩
abbrev main_v32 : Ref sig .tc := ⟨.hbm, 89, rfl⟩
abbrev main_v33 : Ref sig .tc := ⟨.hbm, 90, rfl⟩
abbrev main_cst_10 : Ref sig .tc := ⟨.hbm, 91, rfl⟩
abbrev main_v34 : Ref sig .tc := ⟨.hbm, 92, rfl⟩
abbrev main_v35 : Ref sig .tc := ⟨.hbm, 93, rfl⟩
abbrev main_c_11 : Ref sig .tc := ⟨.hbm, 94, rfl⟩
abbrev main_v36 : Ref sig .tc := ⟨.hbm, 95, rfl⟩
abbrev main_v37 : Ref sig .tc := ⟨.hbm, 96, rfl⟩
abbrev main_c_12 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_c_1 : Ref sig .tc := ⟨.hbm, 111, rfl⟩
abbrev main_call3_c_2 : Ref sig .tc := ⟨.hbm, 112, rfl⟩
abbrev main_call3_v5 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_c_3 : Ref sig .tc := ⟨.hbm, 119, rfl⟩
abbrev main_call3_v11 : Ref sig .tc := ⟨.hbm, 120, rfl⟩
abbrev main_call3_v12 : Ref sig .tc := ⟨.hbm, 121, rfl⟩
abbrev main_call3_v13 : Ref sig .tc := ⟨.hbm, 122, rfl⟩
abbrev main_call3_cst : Ref sig .tc := ⟨.hbm, 123, rfl⟩
abbrev main_call3_v14 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_v57 : Ref sig .tc := ⟨.hbm, 138, rfl⟩
abbrev main_v58 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_cst_13 : Ref sig .tc := ⟨.hbm, 154, rfl⟩
abbrev main_v73 : Ref sig .tc := ⟨.hbm, 155, rfl⟩
abbrev main_v74 : Ref sig .tc := ⟨.hbm, 156, rfl⟩
abbrev main_cst_14 : Ref sig .tc := ⟨.hbm, 157, rfl⟩
abbrev main_call4_v0 : Ref sig .tc := ⟨.hbm, 158, rfl⟩
abbrev main_call4_v1 : Ref sig .tc := ⟨.hbm, 159, rfl⟩
abbrev main_call4_v2 : Ref sig .tc := ⟨.hbm, 160, rfl⟩
abbrev main_call4_v3 : Ref sig .tc := ⟨.hbm, 161, rfl⟩
abbrev main_v75 : Ref sig .tc := ⟨.hbm, 162, rfl⟩
abbrev main_cst_15 : Ref sig .tc := ⟨.hbm, 163, rfl⟩
abbrev main_v76 : Ref sig .tc := ⟨.hbm, 164, rfl⟩
abbrev main_v77 : Ref sig .tc := ⟨.hbm, 165, rfl⟩
abbrev main_cst_16 : Ref sig .tc := ⟨.hbm, 166, rfl⟩
abbrev main_call5_v0 : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_v78 : Ref sig .tc := ⟨.hbm, 171, rfl⟩
abbrev main_cst_17 : Ref sig .tc := ⟨.hbm, 172, rfl⟩
abbrev main_v79 : Ref sig .tc := ⟨.hbm, 173, rfl⟩
abbrev main_v80 : Ref sig .tc := ⟨.hbm, 174, rfl⟩
abbrev main_cst_18 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_call6_v3 : Ref sig .tc := ⟨.hbm, 179, rfl⟩
abbrev main_v81 : Ref sig .tc := ⟨.hbm, 180, rfl⟩
abbrev main_cst_19 : Ref sig .tc := ⟨.hbm, 181, rfl⟩
abbrev main_v82 : Ref sig .tc := ⟨.hbm, 182, rfl⟩
abbrev main_v83 : Ref sig .tc := ⟨.hbm, 183, rfl⟩
abbrev main_cst_20 : Ref sig .tc := ⟨.hbm, 184, rfl⟩
abbrev main_call7_v0 : Ref sig .tc := ⟨.hbm, 185, rfl⟩
abbrev main_call7_v1 : Ref sig .tc := ⟨.hbm, 186, rfl⟩
abbrev main_call7_v2 : Ref sig .tc := ⟨.hbm, 187, rfl⟩
abbrev main_call7_v3 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_v88 : Ref sig .tc := ⟨.hbm, 193, rfl⟩
abbrev main_v89 : Ref sig .tc := ⟨.hbm, 194, rfl⟩
abbrev main_v90 : Ref sig .tc := ⟨.hbm, 195, rfl⟩
abbrev main_cst_21 : Ref sig .tc := ⟨.hbm, 196, rfl⟩
abbrev main_v91 : Ref sig .tc := ⟨.hbm, 197, rfl⟩
abbrev main_v92 : Ref sig .tc := ⟨.hbm, 198, rfl⟩
abbrev main_cst_22 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_cst_23 : Ref sig .tc := ⟨.hbm, 204, rfl⟩
abbrev main_v97 : Ref sig .tc := ⟨.hbm, 205, rfl⟩
abbrev main_v98 : Ref sig .tc := ⟨.hbm, 206, rfl⟩
abbrev main_cst_24 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_cst_25 : Ref sig .tc := ⟨.hbm, 211, rfl⟩
abbrev main_call8_v0 : Ref sig .tc := ⟨.hbm, 212, rfl⟩
abbrev main_call8_v1 : Ref sig .tc := ⟨.hbm, 213, rfl⟩
abbrev main_v102 : Ref sig .tc := ⟨.hbm, 214, rfl⟩
abbrev main_v103 : Ref sig .tc := ⟨.hbm, 215, rfl⟩
abbrev main_cst_26 : Ref sig .tc := ⟨.hbm, 216, rfl⟩
abbrev main_call9_v0 : Ref sig .tc := ⟨.hbm, 217, rfl⟩
abbrev main_call9_v1 : Ref sig .tc := ⟨.hbm, 218, rfl⟩
abbrev main_v104 : Ref sig .tc := ⟨.hbm, 219, rfl⟩
abbrev main_cst_27 : Ref sig .tc := ⟨.hbm, 220, rfl⟩
abbrev main_v105 : Ref sig .tc := ⟨.hbm, 221, rfl⟩
abbrev main_v106 : Ref sig .tc := ⟨.hbm, 222, rfl⟩
abbrev main_cst_28 : Ref sig .tc := ⟨.hbm, 223, rfl⟩
abbrev main_v107 : Ref sig .tc := ⟨.hbm, 224, rfl⟩
abbrev main_v108 : Ref sig .tc := ⟨.hbm, 225, rfl⟩
abbrev main_v109 : Ref sig .tc := ⟨.hbm, 226, rfl⟩
abbrev main_v110 : Ref sig .tc := ⟨.hbm, 227, rfl⟩
abbrev main_v111 : Ref sig .tc := ⟨.hbm, 228, rfl⟩
abbrev main_v112 : Ref sig .tc := ⟨.hbm, 229, rfl⟩
abbrev main_v113 : Ref sig .tc := ⟨.hbm, 230, rfl⟩
abbrev main_call10_v0 : Ref sig .tc := ⟨.hbm, 231, rfl⟩
abbrev main_call10_v1_0 : Ref sig .tc := ⟨.hbm, 232, rfl⟩
abbrev main_v114 : Ref sig .tc := ⟨.hbm, 233, rfl⟩
abbrev main_v115 : Ref sig .tc := ⟨.hbm, 234, rfl⟩
abbrev main_call11_c : Ref sig .tc := ⟨.hbm, 235, rfl⟩
abbrev main_call11_v0 : Ref sig .tc := ⟨.hbm, 236, rfl⟩
abbrev main_call11_v1 : Ref sig .tc := ⟨.hbm, 237, rfl⟩
abbrev main_call11_c_0 : Ref sig .tc := ⟨.hbm, 238, rfl⟩
abbrev main_call11_v2 : Ref sig .tc := ⟨.hbm, 239, rfl⟩
abbrev main_call11_v3 : Ref sig .tc := ⟨.hbm, 240, rfl⟩
abbrev main_call11_v4 : Ref sig .tc := ⟨.hbm, 241, rfl⟩
abbrev main_call11_c_1 : Ref sig .tc := ⟨.hbm, 242, rfl⟩
abbrev main_call11_c_2 : Ref sig .tc := ⟨.hbm, 243, rfl⟩
abbrev main_call11_v5 : Ref sig .tc := ⟨.hbm, 244, rfl⟩
abbrev main_call11_v6 : Ref sig .tc := ⟨.hbm, 245, rfl⟩
abbrev main_call11_v7 : Ref sig .tc := ⟨.hbm, 246, rfl⟩
abbrev main_call11_v8 : Ref sig .tc := ⟨.hbm, 247, rfl⟩
abbrev main_call11_v9 : Ref sig .tc := ⟨.hbm, 248, rfl⟩
abbrev main_call11_v10 : Ref sig .tc := ⟨.hbm, 249, rfl⟩
abbrev main_call11_c_3 : Ref sig .tc := ⟨.hbm, 250, rfl⟩
abbrev main_call11_v11 : Ref sig .tc := ⟨.hbm, 251, rfl⟩
abbrev main_call11_v12 : Ref sig .tc := ⟨.hbm, 252, rfl⟩
abbrev main_call11_v13 : Ref sig .tc := ⟨.hbm, 253, rfl⟩
abbrev main_call11_cst : Ref sig .tc := ⟨.hbm, 254, rfl⟩
abbrev main_call11_v14 : Ref sig .tc := ⟨.hbm, 255, rfl⟩
abbrev main_v116 : Ref sig .tc := ⟨.hbm, 256, rfl⟩
abbrev main_call12_c : Ref sig .tc := ⟨.hbm, 257, rfl⟩
abbrev main_call12_v0 : Ref sig .tc := ⟨.hbm, 258, rfl⟩
abbrev main_call12_v1 : Ref sig .tc := ⟨.hbm, 259, rfl⟩
abbrev main_call12_c_0 : Ref sig .tc := ⟨.hbm, 260, rfl⟩
abbrev main_call12_v2 : Ref sig .tc := ⟨.hbm, 261, rfl⟩
abbrev main_call12_v3 : Ref sig .tc := ⟨.hbm, 262, rfl⟩
abbrev main_call12_v4 : Ref sig .tc := ⟨.hbm, 263, rfl⟩
abbrev main_call12_v5 : Ref sig .tc := ⟨.hbm, 264, rfl⟩
abbrev main_call12_c_1 : Ref sig .tc := ⟨.hbm, 265, rfl⟩
abbrev main_call12_c_2 : Ref sig .tc := ⟨.hbm, 266, rfl⟩
abbrev main_call12_v6 : Ref sig .tc := ⟨.hbm, 267, rfl⟩
abbrev main_call12_v7 : Ref sig .tc := ⟨.hbm, 268, rfl⟩
abbrev main_call12_v8 : Ref sig .tc := ⟨.hbm, 269, rfl⟩
abbrev main_call12_v9 : Ref sig .tc := ⟨.hbm, 270, rfl⟩
abbrev main_call12_v10 : Ref sig .tc := ⟨.hbm, 271, rfl⟩
abbrev main_call12_v11 : Ref sig .tc := ⟨.hbm, 272, rfl⟩
abbrev main_call12_c_3 : Ref sig .tc := ⟨.hbm, 273, rfl⟩
abbrev main_call12_v12 : Ref sig .tc := ⟨.hbm, 274, rfl⟩
abbrev main_call12_v13 : Ref sig .tc := ⟨.hbm, 275, rfl⟩
abbrev main_call12_c_4 : Ref sig .tc := ⟨.hbm, 276, rfl⟩
abbrev main_call12_v14 : Ref sig .tc := ⟨.hbm, 277, rfl⟩
abbrev main_v117 : Ref sig .tc := ⟨.hbm, 278, rfl⟩
abbrev main_v118 : Ref sig .tc := ⟨.hbm, 279, rfl⟩
abbrev main_v119 : Ref sig .tc := ⟨.hbm, 280, rfl⟩
abbrev main_v120 : Ref sig .tc := ⟨.hbm, 281, rfl⟩
abbrev main_v121 : Ref sig .tc := ⟨.hbm, 282, rfl⟩
abbrev main_v122 : Ref sig .tc := ⟨.hbm, 283, rfl⟩
abbrev main_v123 : Ref sig .tc := ⟨.hbm, 284, rfl⟩
abbrev main_v124 : Ref sig .tc := ⟨.hbm, 285, rfl⟩
abbrev main_v125 : Ref sig .tc := ⟨.hbm, 286, rfl⟩
abbrev main_v126 : Ref sig .tc := ⟨.hbm, 287, rfl⟩
abbrev main_v127 : Ref sig .tc := ⟨.hbm, 288, rfl⟩
abbrev main_v128 : Ref sig .tc := ⟨.hbm, 289, rfl⟩
abbrev main_v129 : Ref sig .tc := ⟨.hbm, 290, rfl⟩
abbrev main_v130 : Ref sig .tc := ⟨.hbm, 291, rfl⟩
abbrev main_v131 : Ref sig .tc := ⟨.hbm, 292, rfl⟩
abbrev main_v132 : Ref sig .tc := ⟨.hbm, 293, rfl⟩
abbrev main_v133 : Ref sig .tc := ⟨.hbm, 294, rfl⟩
abbrev main_v134 : Ref sig .tc := ⟨.hbm, 295, rfl⟩
abbrev main_v135 : Ref sig .tc := ⟨.hbm, 296, rfl⟩
abbrev main_v136 : Ref sig .tc := ⟨.hbm, 297, rfl⟩
abbrev main_v137 : Ref sig .tc := ⟨.hbm, 298, rfl⟩
abbrev main_v138 : Ref sig .tc := ⟨.hbm, 299, rfl⟩
abbrev main_v139 : Ref sig .tc := ⟨.hbm, 300, rfl⟩
abbrev main_v140 : Ref sig .tc := ⟨.hbm, 301, rfl⟩
abbrev main_v141 : Ref sig .tc := ⟨.hbm, 302, rfl⟩
abbrev main_v142 : Ref sig .tc := ⟨.hbm, 303, rfl⟩
abbrev main_v143 : Ref sig .tc := ⟨.hbm, 304, rfl⟩
abbrev main_cst_29 : Ref sig .tc := ⟨.hbm, 305, rfl⟩
abbrev main_call13_v0 : Ref sig .tc := ⟨.hbm, 306, rfl⟩
abbrev main_call13_v1 : Ref sig .tc := ⟨.hbm, 307, rfl⟩
abbrev main_v144 : Ref sig .tc := ⟨.hbm, 308, rfl⟩
abbrev main_v145 : Ref sig .tc := ⟨.hbm, 309, rfl⟩
abbrev main_v146 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_v150 : Ref sig .tc := ⟨.hbm, 314, rfl⟩
abbrev main_v151 : Ref sig .tc := ⟨.hbm, 315, rfl⟩
abbrev main_v152 : Ref sig .tc := ⟨.hbm, 316, rfl⟩
abbrev main_v153 : Ref sig .tc := ⟨.hbm, 317, rfl⟩
abbrev main_v154 : Ref sig .tc := ⟨.hbm, 318, rfl⟩
abbrev main_v155 : Ref sig .tc := ⟨.hbm, 319, rfl⟩
abbrev main_cst_30 : Ref sig .tc := ⟨.hbm, 320, rfl⟩
abbrev main_call14_v0 : Ref sig .tc := ⟨.hbm, 321, rfl⟩
abbrev main_call14_v1 : Ref sig .tc := ⟨.hbm, 322, rfl⟩
abbrev main_v156 : Ref sig .tc := ⟨.hbm, 323, rfl⟩
abbrev main_v157 : Ref sig .tc := ⟨.hbm, 324, rfl⟩
abbrev main_v158 : Ref sig .tc := ⟨.hbm, 325, rfl⟩
abbrev main_c_31 : Ref sig .tc := ⟨.hbm, 326, rfl⟩
abbrev main_c_32 : Ref sig .tc := ⟨.hbm, 327, rfl⟩
abbrev main_v159_0 : Ref sig .tc := ⟨.hbm, 328, rfl⟩
abbrev main_v159_1 : Ref sig .tc := ⟨.hbm, 329, rfl⟩
abbrev main_v159_2 : Ref sig .tc := ⟨.hbm, 330, rfl⟩
abbrev main_v159_3 : Ref sig .tc := ⟨.hbm, 331, rfl⟩
abbrev main_v159_4 : Ref sig .tc := ⟨.hbm, 332, rfl⟩
abbrev main_while0c_c_49 : Ref sig .tc := ⟨.hbm, 333, rfl⟩
abbrev main_while0c_v189 : Ref sig .tc := ⟨.hbm, 334, rfl⟩
abbrev main_while0b_c_49 : Ref sig .tc := ⟨.hbm, 335, rfl⟩
abbrev main_while0b_v189 : Ref sig .tc := ⟨.hbm, 336, rfl⟩
abbrev main_while0b_call15_c : Ref sig .tc := ⟨.hbm, 337, rfl⟩
abbrev main_while0b_call15_v0 : Ref sig .tc := ⟨.hbm, 338, rfl⟩
abbrev main_while0b_call15_v1 : Ref sig .tc := ⟨.hbm, 339, rfl⟩
abbrev main_while0b_call15_c_0 : Ref sig .tc := ⟨.hbm, 340, rfl⟩
abbrev main_while0b_call15_v2 : Ref sig .tc := ⟨.hbm, 341, rfl⟩
abbrev main_while0b_call15_v3 : Ref sig .tc := ⟨.hbm, 342, rfl⟩
abbrev main_while0b_call15_c_1 : Ref sig .tc := ⟨.hbm, 343, rfl⟩
abbrev main_while0b_call15_c_2 : Ref sig .tc := ⟨.hbm, 344, rfl⟩
abbrev main_while0b_call15_v4 : Ref sig .tc := ⟨.hbm, 345, rfl⟩
abbrev main_while0b_v190 : Ref sig .tc := ⟨.hbm, 346, rfl⟩
abbrev main_while0b_call16_c : Ref sig .tc := ⟨.hbm, 347, rfl⟩
abbrev main_while0b_call16_v0 : Ref sig .tc := ⟨.hbm, 348, rfl⟩
abbrev main_while0b_call16_v1 : Ref sig .tc := ⟨.hbm, 349, rfl⟩
abbrev main_while0b_call16_c_0 : Ref sig .tc := ⟨.hbm, 350, rfl⟩
abbrev main_while0b_call16_v2 : Ref sig .tc := ⟨.hbm, 351, rfl⟩
abbrev main_while0b_call16_v3 : Ref sig .tc := ⟨.hbm, 352, rfl⟩
abbrev main_while0b_call16_c_1 : Ref sig .tc := ⟨.hbm, 353, rfl⟩
abbrev main_while0b_v191 : Ref sig .tc := ⟨.hbm, 354, rfl⟩
abbrev main_while0b_cst_50 : Ref sig .tc := ⟨.hbm, 355, rfl⟩
abbrev main_while0b_v192 : Ref sig .tc := ⟨.hbm, 356, rfl⟩
abbrev main_while0b_v193 : Ref sig .tc := ⟨.hbm, 357, rfl⟩
abbrev main_while0b_v194 : Ref sig .tc := ⟨.hbm, 358, rfl⟩
abbrev main_while0b_v195 : Ref sig .tc := ⟨.hbm, 359, rfl⟩
abbrev main_while0b_v196 : Ref sig .tc := ⟨.hbm, 360, rfl⟩
abbrev main_while0b_v197 : Ref sig .tc := ⟨.hbm, 361, rfl⟩
abbrev main_while0b_v198 : Ref sig .tc := ⟨.hbm, 362, rfl⟩
abbrev main_while0b_v199 : Ref sig .tc := ⟨.hbm, 363, rfl⟩
abbrev main_while0b_v200 : Ref sig .tc := ⟨.hbm, 364, rfl⟩
abbrev main_while0b_v201 : Ref sig .tc := ⟨.hbm, 365, rfl⟩
abbrev main_while0b_call17_v0 : Ref sig .tc := ⟨.hbm, 366, rfl⟩
abbrev main_while0b_v202 : Ref sig .tc := ⟨.hbm, 367, rfl⟩
abbrev main_while0b_c_51 : Ref sig .tc := ⟨.hbm, 368, rfl⟩
abbrev main_while0b_v203 : Ref sig .tc := ⟨.hbm, 369, rfl⟩
abbrev main_v160 : Ref sig .tc := ⟨.hbm, 370, rfl⟩
abbrev main_v161 : Ref sig .tc := ⟨.hbm, 371, rfl⟩
abbrev main_c_33 : Ref sig .tc := ⟨.hbm, 372, rfl⟩
abbrev main_v162 : Ref sig .tc := ⟨.hbm, 373, rfl⟩
abbrev main_c_34 : Ref sig .tc := ⟨.hbm, 374, rfl⟩
abbrev main_v163 : Ref sig .tc := ⟨.hbm, 375, rfl⟩
abbrev main_v164 : Ref sig .tc := ⟨.hbm, 376, rfl⟩
abbrev main_c_35 : Ref sig .tc := ⟨.hbm, 377, rfl⟩
abbrev main_v165 : Ref sig .tc := ⟨.hbm, 378, rfl⟩
abbrev main_v166 : Ref sig .tc := ⟨.hbm, 379, rfl⟩
abbrev main_v167 : Ref sig .tc := ⟨.hbm, 380, rfl⟩
abbrev main_c_36 : Ref sig .tc := ⟨.hbm, 381, rfl⟩
abbrev main_v168 : Ref sig .tc := ⟨.hbm, 382, rfl⟩
abbrev main_v169 : Ref sig .tc := ⟨.hbm, 383, rfl⟩
abbrev main_c_37 : Ref sig .tc := ⟨.hbm, 384, rfl⟩
abbrev main_v170 : Ref sig .tc := ⟨.hbm, 385, rfl⟩
abbrev main_v171 : Ref sig .tc := ⟨.hbm, 386, rfl⟩
abbrev main_v172 : Ref sig .tc := ⟨.hbm, 387, rfl⟩
abbrev main_v173 : Ref sig .tc := ⟨.hbm, 388, rfl⟩
abbrev main_v174 : Ref sig .tc := ⟨.hbm, 389, rfl⟩
abbrev main_v175 : Ref sig .tc := ⟨.hbm, 390, rfl⟩
abbrev main_v176 : Ref sig .tc := ⟨.hbm, 391, rfl⟩
abbrev main_v177 : Ref sig .tc := ⟨.hbm, 392, rfl⟩
abbrev main_cst_38 : Ref sig .tc := ⟨.hbm, 393, rfl⟩
abbrev main_call18_v0 : Ref sig .tc := ⟨.hbm, 394, rfl⟩
abbrev main_call18_v1 : Ref sig .tc := ⟨.hbm, 395, rfl⟩
abbrev main_v178 : Ref sig .tc := ⟨.hbm, 396, rfl⟩
abbrev main_values_39 : Ref sig .tc := ⟨.hbm, 397, rfl⟩
abbrev main_indices_40 : Ref sig .tc := ⟨.hbm, 398, rfl⟩
abbrev main_cst_41 : Ref sig .tc := ⟨.hbm, 399, rfl⟩
abbrev main_v179 : Ref sig .tc := ⟨.hbm, 400, rfl⟩
abbrev main_v180 : Ref sig .tc := ⟨.hbm, 401, rfl⟩
abbrev main_v181 : Ref sig .tc := ⟨.hbm, 402, rfl⟩
abbrev main_call19_c : Ref sig .tc := ⟨.hbm, 403, rfl⟩
abbrev main_call19_v0 : Ref sig .tc := ⟨.hbm, 404, rfl⟩
abbrev main_call19_v1 : Ref sig .tc := ⟨.hbm, 405, rfl⟩
abbrev main_call19_c_0 : Ref sig .tc := ⟨.hbm, 406, rfl⟩
abbrev main_call19_v2 : Ref sig .tc := ⟨.hbm, 407, rfl⟩
abbrev main_call19_v3 : Ref sig .tc := ⟨.hbm, 408, rfl⟩
abbrev main_call19_v4 : Ref sig .tc := ⟨.hbm, 409, rfl⟩
abbrev main_call19_c_1 : Ref sig .tc := ⟨.hbm, 410, rfl⟩
abbrev main_call19_c_2 : Ref sig .tc := ⟨.hbm, 411, rfl⟩
abbrev main_call19_v5 : Ref sig .tc := ⟨.hbm, 412, rfl⟩
abbrev main_call19_v6 : Ref sig .tc := ⟨.hbm, 413, rfl⟩
abbrev main_call19_v7 : Ref sig .tc := ⟨.hbm, 414, rfl⟩
abbrev main_call19_v8 : Ref sig .tc := ⟨.hbm, 415, rfl⟩
abbrev main_call19_v9 : Ref sig .tc := ⟨.hbm, 416, rfl⟩
abbrev main_call19_v10 : Ref sig .tc := ⟨.hbm, 417, rfl⟩
abbrev main_call19_c_3 : Ref sig .tc := ⟨.hbm, 418, rfl⟩
abbrev main_call19_v11 : Ref sig .tc := ⟨.hbm, 419, rfl⟩
abbrev main_call19_v12 : Ref sig .tc := ⟨.hbm, 420, rfl⟩
abbrev main_call19_v13 : Ref sig .tc := ⟨.hbm, 421, rfl⟩
abbrev main_call19_cst : Ref sig .tc := ⟨.hbm, 422, rfl⟩
abbrev main_call19_v14 : Ref sig .tc := ⟨.hbm, 423, rfl⟩
abbrev main_v182 : Ref sig .tc := ⟨.hbm, 424, rfl⟩
abbrev main_call20_c : Ref sig .tc := ⟨.hbm, 425, rfl⟩
abbrev main_call20_v0 : Ref sig .tc := ⟨.hbm, 426, rfl⟩
abbrev main_call20_v1 : Ref sig .tc := ⟨.hbm, 427, rfl⟩
abbrev main_call20_c_0 : Ref sig .tc := ⟨.hbm, 428, rfl⟩
abbrev main_call20_v2 : Ref sig .tc := ⟨.hbm, 429, rfl⟩
abbrev main_call20_v3 : Ref sig .tc := ⟨.hbm, 430, rfl⟩
abbrev main_call20_v4 : Ref sig .tc := ⟨.hbm, 431, rfl⟩
abbrev main_call20_v5 : Ref sig .tc := ⟨.hbm, 432, rfl⟩
abbrev main_call20_c_1 : Ref sig .tc := ⟨.hbm, 433, rfl⟩
abbrev main_call20_c_2 : Ref sig .tc := ⟨.hbm, 434, rfl⟩
abbrev main_call20_v6 : Ref sig .tc := ⟨.hbm, 435, rfl⟩
abbrev main_call20_v7 : Ref sig .tc := ⟨.hbm, 436, rfl⟩
abbrev main_call20_v8 : Ref sig .tc := ⟨.hbm, 437, rfl⟩
abbrev main_call20_v9 : Ref sig .tc := ⟨.hbm, 438, rfl⟩
abbrev main_call20_v10 : Ref sig .tc := ⟨.hbm, 439, rfl⟩
abbrev main_call20_v11 : Ref sig .tc := ⟨.hbm, 440, rfl⟩
abbrev main_call20_c_3 : Ref sig .tc := ⟨.hbm, 441, rfl⟩
abbrev main_call20_v12 : Ref sig .tc := ⟨.hbm, 442, rfl⟩
abbrev main_call20_v13 : Ref sig .tc := ⟨.hbm, 443, rfl⟩
abbrev main_call20_cst : Ref sig .tc := ⟨.hbm, 444, rfl⟩
abbrev main_call20_v14 : Ref sig .tc := ⟨.hbm, 445, rfl⟩
abbrev main_v183 : Ref sig .tc := ⟨.hbm, 446, rfl⟩
abbrev main_call21_c : Ref sig .tc := ⟨.hbm, 447, rfl⟩
abbrev main_call21_v0 : Ref sig .tc := ⟨.hbm, 448, rfl⟩
abbrev main_call21_v1 : Ref sig .tc := ⟨.hbm, 449, rfl⟩
abbrev main_call21_c_0 : Ref sig .tc := ⟨.hbm, 450, rfl⟩
abbrev main_call21_v2 : Ref sig .tc := ⟨.hbm, 451, rfl⟩
abbrev main_call21_v3 : Ref sig .tc := ⟨.hbm, 452, rfl⟩
abbrev main_call21_v4 : Ref sig .tc := ⟨.hbm, 453, rfl⟩
abbrev main_call21_v5 : Ref sig .tc := ⟨.hbm, 454, rfl⟩
abbrev main_call21_c_1 : Ref sig .tc := ⟨.hbm, 455, rfl⟩
abbrev main_call21_c_2 : Ref sig .tc := ⟨.hbm, 456, rfl⟩
abbrev main_call21_v6 : Ref sig .tc := ⟨.hbm, 457, rfl⟩
abbrev main_call21_v7 : Ref sig .tc := ⟨.hbm, 458, rfl⟩
abbrev main_call21_v8 : Ref sig .tc := ⟨.hbm, 459, rfl⟩
abbrev main_call21_v9 : Ref sig .tc := ⟨.hbm, 460, rfl⟩
abbrev main_call21_v10 : Ref sig .tc := ⟨.hbm, 461, rfl⟩
abbrev main_call21_v11 : Ref sig .tc := ⟨.hbm, 462, rfl⟩
abbrev main_call21_c_3 : Ref sig .tc := ⟨.hbm, 463, rfl⟩
abbrev main_call21_v12 : Ref sig .tc := ⟨.hbm, 464, rfl⟩
abbrev main_call21_v13 : Ref sig .tc := ⟨.hbm, 465, rfl⟩
abbrev main_call21_c_4 : Ref sig .tc := ⟨.hbm, 466, rfl⟩
abbrev main_call21_v14 : Ref sig .tc := ⟨.hbm, 467, rfl⟩
abbrev main_v184 : Ref sig .tc := ⟨.hbm, 468, rfl⟩
abbrev main_v185 : Ref sig .tc := ⟨.hbm, 469, rfl⟩
abbrev main_cst_42 : Ref sig .tc := ⟨.hbm, 470, rfl⟩
abbrev main_call22_v0 : Ref sig .tc := ⟨.hbm, 471, rfl⟩
abbrev main_call22_v1 : Ref sig .tc := ⟨.hbm, 472, rfl⟩
abbrev main_call22_v2 : Ref sig .tc := ⟨.hbm, 473, rfl⟩
abbrev main_v186 : Ref sig .tc := ⟨.hbm, 474, rfl⟩
abbrev main_cst_43 : Ref sig .tc := ⟨.hbm, 475, rfl⟩
abbrev main_call23_v0 : Ref sig .tc := ⟨.hbm, 476, rfl⟩
abbrev main_call23_v1 : Ref sig .tc := ⟨.hbm, 477, rfl⟩
abbrev main_v187 : Ref sig .tc := ⟨.hbm, 478, rfl⟩
abbrev main_c_44 : Ref sig .tc := ⟨.hbm, 479, rfl⟩
abbrev main_call24_v0 : Ref sig .tc := ⟨.hbm, 480, rfl⟩
abbrev main_call24_v1 : Ref sig .tc := ⟨.hbm, 481, rfl⟩
abbrev main_v188 : Ref sig .tc := ⟨.hbm, 482, rfl⟩

abbrev nD : Nat := 1
abbrev τ : Topo := Topo.v7x

variable {F : FTy → Type} [FloatOps F]

abbrev main_while0_count : Scf.Loop 32 := ⟨0#32, 1000#32, 1#32⟩
-- ==== Proof.V01.Stages.lean ====
/- The host stretches of the kernel and of the reference, cut into stages that do the same work on both sides, each named
   by what it computes; and the names of the two buffer-contents types the stage lemmas speak of. -/
module

public import proofs.«01_k».proof.Proof.Gen.KernelIdeal.Frame
public import proofs.«01_k».proof.Proof.Gen.ReferenceIdeal.Run
public import Idealize.ShloMosaic.Lib.StableHlo.RunRead
public import Idealize.ShloMosaic.PureOps.Ideal

@[expose] public section

set_option maxRecDepth 16384

noncomputable section

namespace Cert.V01

open Idealize.ShloMosaic Idealize.ShloMosaic.StableHlo Idealize.SL.Sem

/-- The contents of one device's buffers, the kernel's program. -/
abbrev KV := Valuation KernelIdeal.τ KernelIdeal.sig (Elt Ideal)
/-- The contents of one device's buffers, the reference's program. -/
abbrev RV := Valuation ReferenceIdeal.τ ReferenceIdeal.sig (Elt Ideal)
/-- What the kernel's buffer `b` holds. -/
abbrev kat (V : KV) (b : Ref KernelIdeal.sig .tc) := V (Proc.devRef .tc b)
/-- What the reference's buffer `b` holds. -/
abbrev rat (V : RV) (b : Ref ReferenceIdeal.sig .tc) := V (Proc.devRef .tc b)

/-- Kernel: the flat scores' top 1000, their positions as location and label, the score test, the location gather. -/
abbrev kPick : List (HloOp KernelIdeal.τ KernelIdeal.sig (Elt Ideal)) :=
  KernelIdeal.Gen.hostOps1 ++ KernelIdeal.Gen.hostOps1_1 ++ KernelIdeal.Gen.hostOps1_2 ++ KernelIdeal.Gen.hostOps1_3 ++ KernelIdeal.Gen.hostOps1_4
/-- Kernel: the regression gather, the four raw coordinates, the four clips. -/
abbrev kCoord : List (HloOp KernelIdeal.τ KernelIdeal.sig (Elt Ideal)) :=
  KernelIdeal.Gen.hostOps1_5 ++ KernelIdeal.Gen.hostOps1_6 ++ KernelIdeal.Gen.hostOps1_7 ++ KernelIdeal.Gen.hostOps1_8 ++ KernelIdeal.Gen.hostOps1_9 ++ KernelIdeal.Gen.hostOps1_10 ++ KernelIdeal.Gen.hostOps1_11 ++ KernelIdeal.Gen.hostOps1_12 ++ KernelIdeal.Gen.hostOps1_13
/-- Kernel: the boxes side by side. -/
abbrev kBoxes : List (HloOp KernelIdeal.τ KernelIdeal.sig (Elt Ideal)) :=
  KernelIdeal.Gen.hostOps1_14
/-- Kernel: the scores: the square root where valid, else 0. -/
abbrev kScore : List (HloOp KernelIdeal.τ KernelIdeal.sig (Elt Ideal)) :=
  KernelIdeal.Gen.hostOps1_15 ++ KernelIdeal.Gen.hostOps1_16 ++ KernelIdeal.Gen.hostOps1_17
/-- Kernel: the boxes shifted by label. -/
abbrev kShift : List (HloOp KernelIdeal.τ KernelIdeal.sig (Elt Ideal)) :=
  KernelIdeal.Gen.hostOps1_18
/-- Kernel: the padded, transposed boxes and the padded validity row. -/
abbrev kPad : List (HloOp KernelIdeal.τ KernelIdeal.sig (Elt Ideal)) :=
  KernelIdeal.Gen.hostOps1_19 ++ KernelIdeal.Gen.hostOps1_20 ++ KernelIdeal.Gen.hostOps1_21 ++ KernelIdeal.Gen.hostOps1_22
/-- Kernel: the kept flags off the second region's output. -/
abbrev kKeep : List (HloOp KernelIdeal.τ KernelIdeal.sig (Elt Ideal)) :=
  KernelIdeal.Gen.hostOps2
/-- Kernel: the kept scores, their top 100, and the four results. -/
abbrev kTail : List (HloOp KernelIdeal.τ KernelIdeal.sig (Elt Ideal)) :=
  KernelIdeal.Gen.hostOps2_1 ++ KernelIdeal.Gen.hostOps2_2 ++ KernelIdeal.Gen.hostOps2_3 ++ KernelIdeal.Gen.hostOps2_4 ++ KernelIdeal.Gen.hostOps2_5 ++ KernelIdeal.Gen.hostOps2_6 ++ KernelIdeal.Gen.hostOps2_7 ++ KernelIdeal.Gen.hostOps2_8 ++ KernelIdeal.Gen.hostOps2_9 ++ KernelIdeal.Gen.hostOps2_10 ++ KernelIdeal.Gen.hostOps2_11
/-- Reference: the masked scores and the scaled regression. -/
abbrev rFlat : List (HloOp ReferenceIdeal.τ ReferenceIdeal.sig (Elt Ideal)) :=
  ReferenceIdeal.Gen.hostOps0 ++ ReferenceIdeal.Gen.hostOps0_1
/-- Reference: the flat scores' top 1000, their positions as location and label, the score test, the location gather. -/
abbrev rPick : List (HloOp ReferenceIdeal.τ ReferenceIdeal.sig (Elt Ideal)) :=
  ReferenceIdeal.Gen.hostOps0_2 ++ ReferenceIdeal.Gen.hostOps0_3 ++ ReferenceIdeal.Gen.hostOps0_4 ++ ReferenceIdeal.Gen.hostOps0_5 ++ ReferenceIdeal.Gen.hostOps0_6
/-- Reference: the regression gather, the four raw coordinates, the four clips. -/
abbrev rCoord : List (HloOp ReferenceIdeal.τ ReferenceIdeal.sig (Elt Ideal)) :=
  ReferenceIdeal.Gen.hostOps0_7 ++ ReferenceIdeal.Gen.hostOps0_8 ++ ReferenceIdeal.Gen.hostOps0_9 ++ ReferenceIdeal.Gen.hostOps0_10 ++ ReferenceIdeal.Gen.hostOps0_11 ++ ReferenceIdeal.Gen.hostOps0_12 ++ ReferenceIdeal.Gen.hostOps0_13 ++ ReferenceIdeal.Gen.hostOps0_14 ++ ReferenceIdeal.Gen.hostOps0_15
/-- Reference: the boxes side by side, and the small-box tests. -/
abbrev rBoxes : List (HloOp ReferenceIdeal.τ ReferenceIdeal.sig (Elt Ideal)) :=
  ReferenceIdeal.Gen.hostOps0_16
/-- Reference: the scores. -/
abbrev rScore : List (HloOp ReferenceIdeal.τ ReferenceIdeal.sig (Elt Ideal)) :=
  ReferenceIdeal.Gen.hostOps0_17 ++ ReferenceIdeal.Gen.hostOps0_18 ++ ReferenceIdeal.Gen.hostOps0_19
/-- Reference: the boxes shifted by label, and the negated scores. -/
abbrev rShift : List (HloOp ReferenceIdeal.τ ReferenceIdeal.sig (Elt Ideal)) :=
  ReferenceIdeal.Gen.hostOps0_20
/-- Reference: the order of the scores. -/
abbrev rOrder : List (HloOp ReferenceIdeal.τ ReferenceIdeal.sig (Elt Ideal)) :=
  ReferenceIdeal.Gen.hostOps0_21
/-- Reference: boxes and validity gathered by that order. -/
abbrev rGather : List (HloOp ReferenceIdeal.τ ReferenceIdeal.sig (Elt Ideal)) :=
  ReferenceIdeal.Gen.hostOps0_22 ++ ReferenceIdeal.Gen.hostOps0_23 ++ ReferenceIdeal.Gen.hostOps0_24
/-- Reference: the overlap matrix, and what the loop is entered with. -/
abbrev rIou : List (HloOp ReferenceIdeal.τ ReferenceIdeal.sig (Elt Ideal)) :=
  ReferenceIdeal.Gen.hostOps0_25 ++ ReferenceIdeal.Gen.hostOps0_26 ++ ReferenceIdeal.Gen.hostOps0_27 ++ ReferenceIdeal.Gen.hostOps0_28 ++ ReferenceIdeal.Gen.hostOps0_29
/-- Reference: the kept flags put back at their places. -/
abbrev rUnsort : List (HloOp ReferenceIdeal.τ ReferenceIdeal.sig (Elt Ideal)) :=
  ReferenceIdeal.Gen.hostOps0_30
/-- Reference: the kept scores, their top 100, and the four results. -/
abbrev rTail : List (HloOp ReferenceIdeal.τ ReferenceIdeal.sig (Elt Ideal)) :=
  ReferenceIdeal.Gen.hostOps0_31 ++ ReferenceIdeal.Gen.hostOps0_32 ++ ReferenceIdeal.Gen.hostOps0_33 ++ ReferenceIdeal.Gen.hostOps0_34 ++ ReferenceIdeal.Gen.hostOps0_35 ++ ReferenceIdeal.Gen.hostOps0_36 ++ ReferenceIdeal.Gen.hostOps0_37 ++ ReferenceIdeal.Gen.hostOps0_38 ++ ReferenceIdeal.Gen.hostOps0_39 ++ ReferenceIdeal.Gen.hostOps0_40 ++ ReferenceIdeal.Gen.hostOps0_41

end Cert.V01

end
-- ==== Proof.V01.RefRun.lean ====
/- The reference's run: its contents stage by stage up to the loop, through the loop, and after it; the buffers the loop leaves
   alone; the run with each result at the last stage's contents, the arguments unchanged and no semaphore to speak of. -/
module

public import proofs.«01_k».proof.Proof.V01.Stages

@[expose] public section

set_option maxRecDepth 16384

noncomputable section

namespace Cert.V01

open ReferenceIdeal ReferenceIdeal.Gen ReferenceIdeal.Value
open Idealize.ShloMosaic Idealize.ShloMosaic.StableHlo Idealize.SL.Sem

variable (m : (ℓ : Loc ReferenceIdeal.nD ReferenceIdeal.τ ReferenceIdeal.sig) → Buf (Elt Ideal) ℓ) (c : Dev ReferenceIdeal.nD)

/-- The contents after the masked scores. -/
def rv1 : RV := after rFlat (launchContents m c)
/-- The contents after the candidates are picked. -/
def rv2 : RV := after rPick (rv1 m c)
/-- The contents after the clipped coordinates. -/
def rv3 : RV := after rCoord (rv2 m c)
/-- The contents after the boxes and the validity. -/
def rv4 : RV := after rBoxes (rv3 m c)
/-- The contents after the scores. -/
def rv5 : RV := after rScore (rv4 m c)
/-- The contents after the shifted boxes. -/
def rv6 : RV := after rShift (rv5 m c)
/-- The contents after the order of the scores. -/
def rv7 : RV := after rOrder (rv6 m c)
/-- The contents after the gathers by that order. -/
def rv8 : RV := after rGather (rv7 m c)
/-- The contents the loop is entered with. -/
def rv9 : RV := after rIou (rv8 m c)
/-- The contents the loop is left with. -/
def rv10 : RV := after condOps (atK m 1000 c)
/-- The contents after the flags are put back. -/
def rv11 : RV := after rUnsort (rv10 m c)
/-- The final contents. -/
def rv12 : RV := after rTail (rv11 m c)

/-- The loop is entered with the ninth stage's contents. -/
theorem entry_eq : entryContents preI m c = rv9 m c := by
  simp only [entryContents, afterL_cons, afterL_nil, rv9, rv8, rv7, rv6, rv5, rv4, rv3, rv2, rv1, after_append]

/-- The program ends with the last stage's contents. -/
theorem final_eq : finalContents condOps preI bodyI postI 1000 m c = rv12 m c := by
  simp only [finalContents, afterL_cons, afterL_nil, rv12, rv11, rv10, after_append]

/-- A buffer that no operation of the loop writes leaves the loop as it entered it. -/
theorem loop_keeps {r : Ref ReferenceIdeal.sig .tc} (hc : ∀ V : RV, after condOps V (Proc.devRef .tc r) = V (Proc.devRef .tc r))
    (hb : ∀ V : RV, afterL bodyI V (Proc.devRef .tc r) = V (Proc.devRef .tc r)) :
    rv10 m c (Proc.devRef .tc r) = rv9 m c (Proc.devRef .tc r) := by
  have h : ∀ k, atK m k c (Proc.devRef .tc r) = entryContents preI m c (Proc.devRef .tc r) := by
    intro k
    induction k with
    | zero => rfl
    | succ k ih => exact ((hb _).trans (hc _)).trans ih
  rw [rv10, hc, h, entry_eq]

/-- A buffer that no operation outside the loop's stages writes, from the start to the loop. -/
theorem rArgs (r : Ref ReferenceIdeal.sig .tc) (hr : r = main_arg0 ∨ r = main_arg1 ∨ r = main_arg2 ∨ r = main_arg3 ∨ r = main_arg4) :
    rv12 m c (Proc.devRef .tc r) = launchContents m c (Proc.devRef .tc r) := by
  have hk : rv10 m c (Proc.devRef .tc r) = rv9 m c (Proc.devRef .tc r) := by
    refine loop_keeps m c (fun V => ?_) fun V => ?_
    · rcases hr with rfl | rfl | rfl | rfl | rfl <;> after_reads_simp
    · simp only [afterL_cons, afterL_nil]
      rcases hr with rfl | rfl | rfl | rfl | rfl <;> after_reads_simp
  have hpost : ∀ V : RV, after rTail (after rUnsort V) (Proc.devRef .tc r) = V (Proc.devRef .tc r) := by
    intro V
    rcases hr with rfl | rfl | rfl | rfl | rfl <;> after_reads_simp
  have hpre : rv9 m c (Proc.devRef .tc r) = launchContents m c (Proc.devRef .tc r) := by
    simp only [rv9, rv8, rv7, rv6, rv5, rv4, rv3, rv2, rv1]
    generalize launchContents m c = V
    rcases hr with rfl | rfl | rfl | rfl | rfl <;> after_reads_simp
  rw [rv12, rv11, hpost, hk, hpre]

variable (ρ : Dev ReferenceIdeal.nD → PrngReg)

/-- THE RUN of the reference: every result at the last stage's contents and every argument unchanged. -/
theorem ref_run : θ_run (ReferenceIdeal.defs (F := Ideal)) (onTc (τ := ReferenceIdeal.τ) (ReferenceIdeal.main (F := Ideal))) ⟨m, fun _ => 0, ρ⟩
    (fun r => (∀ c : Dev ReferenceIdeal.nD,
      r.2.mem ((c.tc : Thread ReferenceIdeal.nD ReferenceIdeal.τ).loc main_v186) = rv12 m c (Proc.devRef .tc main_v186)
      ∧ r.2.mem ((c.tc : Thread ReferenceIdeal.nD ReferenceIdeal.τ).loc main_v187) = rv12 m c (Proc.devRef .tc main_v187)
      ∧ r.2.mem ((c.tc : Thread ReferenceIdeal.nD ReferenceIdeal.τ).loc main_v188) = rv12 m c (Proc.devRef .tc main_v188)
      ∧ r.2.mem ((c.tc : Thread ReferenceIdeal.nD ReferenceIdeal.τ).loc main_v180) = rv12 m c (Proc.devRef .tc main_v180)
      ∧ r.2.mem ((c.tc : Thread ReferenceIdeal.nD ReferenceIdeal.τ).loc main_arg0) = m ((c.tc : Thread ReferenceIdeal.nD ReferenceIdeal.τ).loc main_arg0)
      ∧ r.2.mem ((c.tc : Thread ReferenceIdeal.nD ReferenceIdeal.τ).loc main_arg1) = m ((c.tc : Thread ReferenceIdeal.nD ReferenceIdeal.τ).loc main_arg1)
      ∧ r.2.mem ((c.tc : Thread ReferenceIdeal.nD ReferenceIdeal.τ).loc main_arg2) = m ((c.tc : Thread ReferenceIdeal.nD ReferenceIdeal.τ).loc main_arg2)
      ∧ r.2.mem ((c.tc : Thread ReferenceIdeal.nD ReferenceIdeal.τ).loc main_arg3) = m ((c.tc : Thread ReferenceIdeal.nD ReferenceIdeal.τ).loc main_arg3)
      ∧ r.2.mem ((c.tc : Thread ReferenceIdeal.nD ReferenceIdeal.τ).loc main_arg4) = m ((c.tc : Thread ReferenceIdeal.nD ReferenceIdeal.τ).loc main_arg4))) := by
  refine (θ_run _ _ _).mono (fun r h c => ?_) (run_fold (F := Ideal) m ρ)
  have e := fun b hb => (h c b hb).trans (congrFun (final_eq m c) (Proc.devRef .tc b))
  exact ⟨e _ rfl, e _ rfl, e _ rfl, e _ rfl, (e _ rfl).trans (rArgs m c _ (by simp)), (e _ rfl).trans (rArgs m c _ (by simp)),
    (e _ rfl).trans (rArgs m c _ (by simp)), (e _ rfl).trans (rArgs m c _ (by simp)), (e _ rfl).trans (rArgs m c _ (by simp))⟩

end Cert.V01

end
-- ==== Proof.V01.KerRun.lean ====
/- The kernel program's run: its contents stage by stage after the score region, and the run with each result at the last
   boundary's contents and the arguments unchanged. The launch set-up is the generated frame's, read at more buffers. -/
module

public import proofs.«01_k».proof.Proof.V01.Stages
public import proofs.«01_k».proof.Proof.Gen.KernelIdeal.Frame

@[expose] public section

set_option maxRecDepth 16384

noncomputable section

namespace Cert.V01

open KernelIdeal KernelIdeal.Gen Idealize.ShloMosaic.TcCoe Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic Idealize.ShloMosaic.StableHlo Idealize.SL.Sem

variable (m : (ℓ : Loc KernelIdeal.nD KernelIdeal.τ KernelIdeal.sig) → Buf (Elt Ideal) ℓ) (ρ : Dev KernelIdeal.nD → PrngReg)

local notation "𝕄" => MT KernelIdeal.nD KernelIdeal.τ KernelIdeal.sig Unit (Elt Ideal) ℕ (UR KernelIdeal.sig KernelIdeal.nD KernelIdeal.τ) ℕ

set_option backward.isDefEq.respectTransparency.types false in
/-- THE RUN of the kernel: every result at the last boundary's contents and every argument unchanged. -/
theorem ker_run : θ_run (KernelIdeal.defs (F := Ideal)) (onTc (τ := KernelIdeal.τ) (KernelIdeal.main (F := Ideal))) ⟨m, fun _ => 0, ρ⟩
    (fun r => ∀ c : Dev KernelIdeal.nD,
      r.2.mem ((c.tc : Thread KernelIdeal.nD KernelIdeal.τ).loc main_v99) = KernelIdeal.Gen.W38 m ρ c (Proc.devRef .tc main_v99)
      ∧ r.2.mem ((c.tc : Thread KernelIdeal.nD KernelIdeal.τ).loc main_v100) = KernelIdeal.Gen.W38 m ρ c (Proc.devRef .tc main_v100)
      ∧ r.2.mem ((c.tc : Thread KernelIdeal.nD KernelIdeal.τ).loc main_v101) = KernelIdeal.Gen.W38 m ρ c (Proc.devRef .tc main_v101)
      ∧ r.2.mem ((c.tc : Thread KernelIdeal.nD KernelIdeal.τ).loc main_v93) = KernelIdeal.Gen.W38 m ρ c (Proc.devRef .tc main_v93)
      ∧ r.2.mem ((c.tc : Thread KernelIdeal.nD KernelIdeal.τ).loc main_arg0) = m ((c.tc : Thread KernelIdeal.nD KernelIdeal.τ).loc main_arg0)
      ∧ r.2.mem ((c.tc : Thread KernelIdeal.nD KernelIdeal.τ).loc main_arg1) = m ((c.tc : Thread KernelIdeal.nD KernelIdeal.τ).loc main_arg1)
      ∧ r.2.mem ((c.tc : Thread KernelIdeal.nD KernelIdeal.τ).loc main_arg2) = m ((c.tc : Thread KernelIdeal.nD KernelIdeal.τ).loc main_arg2)
      ∧ r.2.mem ((c.tc : Thread KernelIdeal.nD KernelIdeal.τ).loc main_arg3) = m ((c.tc : Thread KernelIdeal.nD KernelIdeal.τ).loc main_arg3)
      ∧ r.2.mem ((c.tc : Thread KernelIdeal.nD KernelIdeal.τ).loc main_arg4) = m ((c.tc : Thread KernelIdeal.nD KernelIdeal.τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W38 m ρ c b)
    (hfin := fun c s' => by
      iintro ⟨⟨Hh, -⟩, HSI⟩
      unfold StableHlo.held
      imodintro
      iapply (pointsTo_read_all (Pipeline.ucRefs τ sig) (fun b => (((c : Thread nD τ)).1, b)) (W38 m ρ c) s')
      isplitl [Hh] <;> iassumption)
    (hQ := fun s h _ c =>
      ⟨h c _ (mem_uc main_v99 (by decide)), h c _ (mem_uc main_v100 (by decide)), h c _ (mem_uc main_v101 (by decide)),
       h c _ (mem_uc main_v93 (by decide)),
       (h c _ (mem_uc main_arg0 (by decide))).trans (W38_main_arg0 m ρ c),
       (h c _ (mem_uc main_arg1 (by decide))).trans (W38_main_arg1 m ρ c),
       (h c _ (mem_uc main_arg2 (by decide))).trans (W38_main_arg2 m ρ c),
       (h c _ (mem_uc main_arg3 (by decide))).trans (W38_main_arg3 m ρ c),
       (h c _ (mem_uc main_arg4 (by decide))).trans (W38_main_arg4 m ρ c)⟩)

variable (c : Dev KernelIdeal.nD)

/-- The contents after the score region. -/
def kv1 : KV := W2 m ρ c
/-- The contents after the candidates are picked. -/
def kv2 : KV := after kPick (kv1 m ρ c)
/-- The contents after the clipped coordinates. -/
def kv3 : KV := after kCoord (kv2 m ρ c)
/-- The contents after the boxes. -/
def kv4 : KV := after kBoxes (kv3 m ρ c)
/-- The contents after the scores. -/
def kv5 : KV := after kScore (kv4 m ρ c)
/-- The contents after the shifted boxes. -/
def kv6 : KV := after kShift (kv5 m ρ c)
/-- The contents the suppression region is entered with. -/
def kv7 : KV := after kPad (kv6 m ρ c)
/-- The contents after the suppression region. -/
def kv8 : KV := W26 m ρ c
/-- The contents after the kept flags. -/
def kv9 : KV := after kKeep (kv8 m ρ c)
/-- The final contents. -/
def kv10 : KV := after kTail (kv9 m ρ c)

/-- The suppression region is entered with the padding stage's contents. -/
theorem W25_eq : W25 m ρ c = kv7 m ρ c := by
  simp only [kv7, kv6, kv5, kv4, kv3, kv2, kv1, after_append]

/-- The program ends with the last stage's contents. -/
theorem W38_eq : W38 m ρ c = kv10 m ρ c := by
  simp only [kv10, kv9, kv8, after_append]

end Cert.V01

end
-- ==== Proof.V01.ScoreRegion.lean ====
/- The first pallas_call: what its result array ends holding, entry by entry. -/
module

public import proofs.«01_k».proof.Proof.Gen.KernelIdeal.Frame
public import Idealize.ShloMosaic.PureOps.Ideal
public import Idealize.ShloMosaic.Lib.Pipeline.Value
public import Idealize.ShloMosaic.Lib.ValueLayout

@[expose] public section

set_option maxRecDepth 16384

noncomputable section

namespace Cert.V01

open KernelIdeal Idealize.ShloMosaic.TcCoe
open Idealize.ShloMosaic.ValueIdx
open Idealize.ShloMosaic Idealize.ShloMosaic.StableHlo Idealize.SL.Sem

/-- A class score at one entry: 0 for the last class, else the logistic of its logit; past the threshold, times the logistic of the centerness
    logit, else −1. -/
def maskedScore (x c : EReal) (k : Nat) : EReal :=
  Scalar.select (FloatOps.cmpf (F := Ideal) (φ := .f32) .ogt (if k = 79 then FloatOps.ofBits (F := Ideal) .f32 0x00000000#32 else Ideal.logistic x)
      (FloatOps.ofBits (F := Ideal) .f32 0x3D4CCCCD#32))
    ((if k = 79 then FloatOps.ofBits (F := Ideal) .f32 0x00000000#32 else Ideal.logistic x) * Ideal.logistic c)
    (FloatOps.ofBits (F := Ideal) .f32 0xBF800000#32)

/-- The masked scores of every location and class. -/
def maskedScores (X : S2x16384x80.Idx → EReal) (C : S2x16384x1.Idx → EReal) : S2x16384x80.Idx → EReal :=
  fun i => maskedScore (X i) (C (ix3 (i 0) (i 1) (0 : Fin 1))) (i 2).val

/-- The lane test of the last class. -/
theorem lane_select (k : Nat) (hk : k < 80) (a b : EReal) :
    Scalar.select (IntOp.cmpi .eq (BitVec.ofNat 32 k) 79#32) a b = if k = 79 then a else b := by
  by_cases h : k = 79
  · subst h; rfl
  · have : ¬ IntOp.cmpi .eq (BitVec.ofNat 32 k) 79#32 = 1#1 := by
      intro e
      have e := IntOp.cmpi_eq.1 e
      have := congrArg BitVec.toNat e
      rw [BitVec.toNat_ofNat, Nat.mod_eq_of_lt (by omega)] at this
      exact h this
    rw [if_neg h]
    exact if_neg this

/-- One block's scores, entry by entry. -/
theorem block_score (x : S1x2048x80.Idx → EReal) (c : S1x2048x1.Idx → EReal) (y : S1x2048x80.Idx) :
    Gen.out0_2 (F := Ideal) x c y = maskedScore (x y) (c (ix3 (0 : Fin 1) (y 1) (0 : Fin 1))) (y 2).val := by
  have hz : (![0, 0, 0] : Fin 3 → Nat) = fun _ => 0 := funext fun a => by fin_cases a <;> rfl
  have hy : (y 2).val < 80 := (y 2).isLt
  have hx : ∀ {n k : Nat} (u : (⟨3, ![1, n, k]⟩ : Shape).Idx → EReal) (h) (i : Fin n) (j : Fin k),
      shapeCast (⟨2, ![n, k]⟩ : Shape) u h (ix2 i j) = u (ix3 (0 : Fin 1) i j) := fun u h i j =>
    shapeCast_apply _ _ _ _ (by rw [Shape.rowMajor_val_three, Shape.rowMajor_val_two]; show (0 * _ + i.val) * _ + j.val = i.val * _ + j.val; simp)
  unfold Gen.out0_2
  rw [View.canon_unit_zero hz]
  simp only [View.ld_unit_zero (S := S1x2048x80) hz, View.ld_unit_zero (S := S1x2048x1) hz]
  unfold Gen.k0_pay1
  have e0 : y = ix3 (0 : Fin 1) (y 1) (y 2) := by
    funext a
    fin_cases a
    · exact Subsingleton.elim (α := Fin 1) _ _
    · rfl
    · rfl
  refine (shapeCast_apply _ _ y (ix2 (y 1) (y 2)) (by
    rw [Shape.rowMajor_val_three, Shape.rowMajor_val_two]
    have h0 : (y 0).val = 0 := by have : (y 0).val < 1 := (y 0).isLt; omega
    show (y 1).val * _ + (y 2).val = ((y 0).val * _ + (y 1).val) * _ + (y 2).val
    rw [h0]; simp)).trans ?_
  unfold maskedScore
  rw [← lane_select _ hy]
  have hc : broadcastTo S2048x80 (logistic (F := Ideal) (φ := .f32) (shapeCast S2048x1 c Gen.shapeCasts_S1x2048x1_S2048x1)) Gen.broadcasts_S2048x1_S2048x80 (ix2 (y 1) (y 2))
      = Ideal.logistic (c (ix3 (0 : Fin 1) (y 1) (0 : Fin 1))) :=
    (broadcastTo_apply _ _ _ (ix2 (y 1) (0 : Fin 1)) (by intro a; fin_cases a <;> rfl)).trans (congrArg Ideal.logistic (hx c _ _ _))
  have hx' : shapeCast S2048x80 x Gen.shapeCasts_S1x2048x80_S2048x80 (ix2 (y 1) (y 2)) = x y :=
    (hx x _ _ _).trans (congrArg x e0.symm)
  have hl : iota .tc S2048x80 32 [1] Gen.iota_S2048x80_d1_w32 (ix2 (y 1) (y 2)) = BitVec.ofNat 32 (y 2).val := iota_single_apply _ _ _ _ _ _
  rw [← hc, ← hx', ← hl]
  rfl

variable (V : (c : Dev nD) → (b : Ref sig .tc) → Buf (Elt Ideal) ((c.tc : Thread nD τ).loc b))

/-- The block index of the result's window. -/
theorem index_out : ∀ t : Fin cfg0.N, cc0_transform_2 (grid0.coords t) = ![t.val / 8, t.val % 8, 0] := by decide +kernel

/-- What every point writes back is its block of the masked scores of the whole arrays. -/
theorem score_flushed (c : Dev nD) (t : Fin cfg0.N) :
    (Gen.dat0 V c).flushed 2 t = ((cfg0.win 2).blk t).view.read (Elt Ideal) (maskedScores (V c main_v1) (V c main_v3)) := by
  show (cfg0.win 2).cut (grid0.coords t) ((Gen.dat0 V c).after 2 t) = _
  rw [Gen.after0_2]
  funext y
  refine (block_score _ _ _).trans ?_
  have e2 : (((win0_2.rect t).emb y) 2 : Nat) = (y 2).val := win0_2.rect_emb_val_of_index_zero t 2 rfl y
  show maskedScore (V c main_v1 ((win0_0.rect t).emb y)) (V c main_v3 ((win0_1.rect t).emb (ix3 (0 : Fin 1) (y 1) (0 : Fin 1)))) (y 2).val
    = maskedScore (V c main_v1 ((win0_2.rect t).emb y)) (V c main_v3 (ix3 ((win0_2.rect t).emb y 0) ((win0_2.rect t).emb y 1) (0 : Fin 1))) ((win0_2.rect t).emb y 2).val
  have h1 : (win0_1.rect t).emb (ix3 (0 : Fin 1) (y 1) (0 : Fin 1)) = ix3 ((win0_2.rect t).emb y 0) ((win0_2.rect t).emb y 1) (0 : Fin 1) := by
    funext a
    apply Fin.ext
    have h0 : (y 0).val = 0 := by have : (y 0).val < 1 := (y 0).isLt; omega
    fin_cases a
    · refine (win0_1.rect_emb_val t _ 0).trans ((win0_2.rect_emb_val t y 0).trans ?_).symm
      rw [h0]; rfl
    · exact (win0_1.rect_emb_val t _ 1).trans (win0_2.rect_emb_val t y 1).symm
    · exact win0_1.rect_emb_val_of_index_zero t 2 rfl _
  rw [h1, e2]
  rfl

/-- Every entry of the result lies in some point's block. -/
theorem score_cover (i : S2x16384x80.Idx) : ∃ t : Fin cfg0.N, (cfg0.win 2).flush t = true ∧ i ∈ ((cfg0.win 2).blk t).view.set := by
  have h0 : (i 0).val < 2 := (i 0).isLt
  have h1 : (i 1).val < 16384 := (i 1).isLt
  have h2 : (i 2).val < 80 := (i 2).isLt
  have hN : cfg0.N = 16 := Gen.N_0
  let t : Fin cfg0.N := ⟨(i 0).val * 8 + (i 1).val / 2048, by omega⟩
  refine ⟨t, Gen.flush0_2 t, ?_⟩
  have ht := index_out t
  have hd : t.val / 8 = (i 0).val := by show ((i 0).val * 8 + (i 1).val / 2048) / 8 = _; omega
  have hm : t.val % 8 = (i 1).val / 2048 := by show ((i 0).val * 8 + (i 1).val / 2048) % 8 = _; omega
  rw [hd, hm] at ht
  show i ∈ ((View.whole main_v4).slice (win0_2.rect t)).set
  rw [View.set_slice_whole, Rect.mem_set_unit]
  intro a
  fin_cases a
  · show cc0_transform_2 (grid0.coords t) 0 * 1 ≤ (i 0).val ∧ (i 0).val < cc0_transform_2 (grid0.coords t) 0 * 1 + 1
    rw [ht]; show (i 0).val * 1 ≤ (i 0).val ∧ (i 0).val < (i 0).val * 1 + 1; omega
  · show cc0_transform_2 (grid0.coords t) 1 * 2048 ≤ (i 1).val ∧ (i 1).val < cc0_transform_2 (grid0.coords t) 1 * 2048 + 2048
    rw [ht]; show (i 1).val / 2048 * 2048 ≤ (i 1).val ∧ (i 1).val < (i 1).val / 2048 * 2048 + 2048; omega
  · show cc0_transform_2 (grid0.coords t) 2 * 80 ≤ (i 2).val ∧ (i 2).val < cc0_transform_2 (grid0.coords t) 2 * 80 + 80
    rw [ht]; show 0 * 80 ≤ (i 2).val ∧ (i 2).val < 0 * 80 + 80; omega

/-- The result array ends holding the masked scores. -/
theorem score_final (c : Dev nD) : (Gen.dat0 V c).arrAt 2 cfg0.N = maskedScores (V c main_v1) (V c main_v3) :=
  (Gen.dat0 V c).arrAt_eq_of_cover 2 (maskedScores (V c main_v1) (V c main_v3)) (fun t _ => score_flushed V c t) score_cover

end Cert.V01

end
-- ==== Proof.V01.Casts.lean ====
/- Casts that add or drop a unit axis, read at an index. -/
module

public import proofs.«01_k».proof.Proof.V01.Stages
public import Idealize.ShloMosaic.Lib.ValueLayout

@[expose] public section

set_option maxRecDepth 16384

noncomputable section

namespace Cert.V01

open Idealize.ShloMosaic.ValueIdx
open Idealize.ShloMosaic Idealize.ShloMosaic.StableHlo Idealize.SL.Sem

/-- A matrix with a unit axis added last. -/
theorem cast_ab_ab1 {α : Type} {a b : ℕ} (x : (⟨2, ![a, b]⟩ : Shape).Idx → α) (h : (⟨2, ![a, b]⟩ : Shape).ShapeCasts ⟨3, ![a, b, 1]⟩)
    (i : (⟨3, ![a, b, 1]⟩ : Shape).Idx) : shapeCast ⟨3, ![a, b, 1]⟩ x h i = x (ix2 (i 0) (i 1)) :=
  shapeCast_apply x h _ _ (by
    have hu : (i 2).val = 0 := Nat.lt_one_iff.1 (i 2).isLt
    rw [Shape.rowMajor_val_three, Shape.rowMajor_val_two]
    show (i 0).val * b + (i 1).val = ((i 0).val * b + (i 1).val) * 1 + (i 2).val
    omega)

/-- A matrix whose last unit axis is dropped. -/
theorem cast_ab1_ab {α : Type} {a b : ℕ} (x : (⟨3, ![a, b, 1]⟩ : Shape).Idx → α) (h : (⟨3, ![a, b, 1]⟩ : Shape).ShapeCasts ⟨2, ![a, b]⟩)
    (i : (⟨2, ![a, b]⟩ : Shape).Idx) : shapeCast ⟨2, ![a, b]⟩ x h i = x (ix3 (i 0) (i 1) (0 : Fin 1)) :=
  shapeCast_apply x h _ _ (by
    rw [Shape.rowMajor_val_three, Shape.rowMajor_val_two]
    show ((i 0).val * b + (i 1).val) * 1 + 0 = (i 0).val * b + (i 1).val
    omega)

/-- A matrix whose middle unit axis is dropped. -/
theorem cast_a1b_ab {α : Type} {a b : ℕ} (x : (⟨3, ![a, 1, b]⟩ : Shape).Idx → α) (h : (⟨3, ![a, 1, b]⟩ : Shape).ShapeCasts ⟨2, ![a, b]⟩)
    (i : (⟨2, ![a, b]⟩ : Shape).Idx) : shapeCast ⟨2, ![a, b]⟩ x h i = x (ix3 (i 0) (0 : Fin 1) (i 1)) :=
  shapeCast_apply x h _ _ (by
    rw [Shape.rowMajor_val_three, Shape.rowMajor_val_two]
    show ((i 0).val * 1 + 0) * b + (i 1).val = (i 0).val * b + (i 1).val
    rw [Nat.mul_one, Nat.add_zero])

end Cert.V01

end
-- ==== Proof.V01.Gathers.lean ====
/- The gathers along the candidate axis: by the axis's own positions each is the identity. -/
module

public import proofs.«01_k».proof.Proof.V01.Casts
public import Idealize.ShloMosaic.Lib.ReduceAll

@[expose] public section

set_option maxRecDepth 16384

noncomputable section

namespace Cert.V01

open ReferenceIdeal
open Idealize.ShloMosaic.ValueIdx
open Idealize.ShloMosaic Idealize.ShloMosaic.StableHlo Idealize.SL.Sem

/-- A small number's word reads back, signed, as the number. -/
theorem toInt_small {n : Nat} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- A candidate position's word, read signed and clamped to the axis, is the position. -/
theorem clamp_pos (idx : IVec S2x1000x1 32) (h : ∀ i : S2x1000x1.Idx, idx i = BitVec.ofNat 32 (i 1).val) (i : S2x1000x1.Idx) :
    min (idx i).toInt.toNat 999 = (i 1).val := by
  have hi : (i 1).val < 1000 := (i 1).isLt
  rw [h i, toInt_small (by omega)]
  omega

/-- Box rows gathered by their own positions. -/
theorem gather_rows_self {α : Type} (x : S2x1000x4.Idx → α) (idx : IVec S2x1000x1 32)
    (h : ∀ i : S2x1000x1.Idx, idx i = BitVec.ofNat 32 (i 1).val) :
    Host.gather gather_S2x1000x4_S2x1000x1_S2x1000x4_2_1_0_0_1_2_114 x idx = x := by
  funext j
  show x (GatherDims.operandIdx _ j idx) = x j
  congr 1
  funext a
  apply Fin.ext
  show _ + _ + _ = _
  fin_cases a
  · show 0 + (j 0).val + 0 = (j 0).val
    omega
  · exact clamp_pos idx h _
  · show 0 + 0 + (j 2).val = (j 2).val
    omega

/-- Flags gathered by their own positions. -/
theorem gather_flags_self {α : Type} (x : S2x1000.Idx → α) (idx : IVec S2x1000x1 32)
    (h : ∀ i : S2x1000x1.Idx, idx i = BitVec.ofNat 32 (i 1).val) :
    Host.gather gather_S2x1000_S2x1000x1_S2x1000_n_1_0_0_1_2_11 x idx = x := by
  funext j
  show x (GatherDims.operandIdx _ j idx) = x j
  congr 1
  funext a
  apply Fin.ext
  show _ + _ + _ = _
  fin_cases a
  · show 0 + (j 0).val + 0 = (j 0).val
    omega
  · exact clamp_pos idx h _

/-- Negative positions wrapped around the candidate axis. -/
def wrapped (n : BitVec 32) (o : IVec S2x1000x1 32) : IVec S2x1000x1 32 :=
  select (cmpi .slt o (broadcastInDim S2x1000x1 ![] Gen.bcast_S_S2x1000x1 (constantI S_ 32 0#32)))
    (addi o (broadcastInDim S2x1000x1 ![] Gen.bcast_S_S2x1000x1 (constantI S_ 32 n))) o

/-- The range test of a gather along the candidate axis. -/
def inRange (m : BitVec 32) (o : IVec S2x1000x1 32) : IVec S2x1000 1 :=
  Host.reduce IntOp.andi
    (andi (cmpi .sge o (broadcastInDim S2x1000x1 ![] Gen.bcast_S_S2x1000x1 (constantI S_ 32 0#32)))
      (cmpi .sle o (broadcastInDim S2x1000x1 ![0, 1, 2] Gen.bcast_S1x1x1_S2x1000x1_0_1_2
        (broadcastInDim S1x1x1 ![2] Gen.bcast_S1_S1x1x1_2 (constantI S1 32 m)))))
    (constantI S_ 1 1#1) Gen.reducesTo_S2x1000x1_S2x1000_d2 Gen.h_S_

/-- A position that is not negative is left by the wrap-around of negative positions. -/
theorem wrap_nonneg (x n : BitVec 32) (h : 0 ≤ x.toInt) : Scalar.select (IntOp.cmpi .slt x 0#32) (IntOp.addi x n) x = x := by
  have : ¬ IntOp.cmpi .slt x 0#32 = 1#1 := fun e => by
    have := IntOp.cmpi_slt.1 e
    simp at this; omega
  unfold Scalar.select
  exact if_neg this

/-- Positions none of which is negative are not wrapped. -/
theorem wrapped_nonneg (n : BitVec 32) (o : IVec S2x1000x1 32) (h : ∀ i, 0 ≤ (o i).toInt) : wrapped n o = o := by
  funext i
  exact wrap_nonneg (o i) n (h i)

/-- Positions from 0 to the last are in range. -/
theorem inRange_of (m : BitVec 32) (o : IVec S2x1000x1 32) (h : ∀ i, 0 ≤ (o i).toInt) (hm : ∀ i, (o i).toInt ≤ m.toInt) (j : S2x1000.Idx) :
    inRange m o j = 1#1 := by
  refine Host.reduce_andi_one _ _ _ _ j rfl fun i => ?_
  show IntOp.andi (IntOp.cmpi .sge (o i) 0#32) (IntOp.cmpi .sle (o i) m) = 1#1
  rw [IntOp.cmpi_sge.2 (by simpa using h i), IntOp.cmpi_sle.2 (hm i)]
  rfl

/-- The axis's own positions, as numbers. -/
theorem iota_toInt (o : IVec S2x1000x1 32) (h : ∀ i : S2x1000x1.Idx, o i = BitVec.ofNat 32 (i 1).val) (i : S2x1000x1.Idx) :
    0 ≤ (o i).toInt ∧ (o i).toInt ≤ (999#32 : BitVec 32).toInt := by
  have hi : (i 1).val < 1000 := (i 1).isLt
  rw [h i, toInt_small (by omega)]
  exact ⟨by omega, by simp; omega⟩

/-- The order's positions as the gather of the flags reads them: wrapped around, then laid as a column. -/
def flagColumn (o : IVec S2x1000 32) : IVec S2x1000x1 32 :=
  shapeCast S2x1000x1 (select (cmpi .slt o (broadcastInDim S2x1000 ![] Gen.bcast_S_S2x1000 (constantI S_ 32 0#32)))
    (addi o (broadcastInDim S2x1000 ![] Gen.bcast_S_S2x1000 (constantI S_ 32 1000#32))) o) Gen.shapeCasts_S2x1000_S2x1000x1

/-- The gathered boxes. -/
theorem rows_read (VR : RV) : after rGather VR (Proc.devRef .tc main_v116)
    = select (α := EReal) (broadcastInDim S2x1000x4 ![0, 1] Gen.bcast_S2x1000_S2x1000x4_0_1
        (inRange 999#32 (wrapped 1000#32 (broadcastInDim S2x1000x1 ![0, 1] Gen.bcast_S2x1000_S2x1000x1_0_1 (VR (Proc.devRef .tc main_v114))))))
      (Host.gather gather_S2x1000x4_S2x1000x1_S2x1000x4_2_1_0_0_1_2_114 (VR (Proc.devRef .tc main_v112))
        (wrapped 1000#32 (broadcastInDim S2x1000x1 ![0, 1] Gen.bcast_S2x1000_S2x1000x1_0_1 (VR (Proc.devRef .tc main_v114)))))
      (broadcastInDim S2x1000x4 ![] Gen.bcast_S_S2x1000x4 (constant (F := Ideal) S_ .f32 0x7FC00000#32)) := by
  after_reads_simp
  rfl

/-- The gathered flags. -/
theorem flags_read (VR : RV) : after rGather VR (Proc.devRef .tc main_v117)
    = select (inRange 999#32 (flagColumn (VR (Proc.devRef .tc main_v114))))
      (Host.gather gather_S2x1000_S2x1000x1_S2x1000_n_1_0_0_1_2_11 (VR (Proc.devRef .tc main_v101))
        (flagColumn (VR (Proc.devRef .tc main_v114))))
      (broadcastInDim S2x1000 ![] Gen.bcast_S_S2x1000 (constantI S_ 1 1#1)) := by
  after_reads_simp
  rfl

/-- The axis's own positions laid as a column. -/
theorem flagColumn_iota (i : S2x1000x1.Idx) : flagColumn (iotaInDim S2x1000 32 1) i = BitVec.ofNat 32 (i 1).val := by
  refine (cast_ab_ab1 _ _ i).trans (wrap_nonneg (BitVec.ofNat 32 (i 1).val) 1000#32 ?_)
  have hi : (i 1).val < 1000 := (i 1).isLt
  rw [toInt_small (by omega)]
  omega

/-- A choice whose every flag is set. -/
theorem select_all {s : Shape} {α : Type} (p : IVec s 1) (x y : s.Idx → α) (h : ∀ j, p j = 1#1) : select p x y = x := by
  funext j
  show Scalar.select (p j) (x j) (y j) = x j
  rw [h j]
  rfl

/-- The gathers by the order, when the order is the positions themselves: boxes and validity as they were. -/
theorem gather_agree (VR : RV) (ho : VR (Proc.devRef .tc main_v114) = iotaInDim S2x1000 32 1) :
    after rGather VR (Proc.devRef .tc main_v116) = VR (Proc.devRef .tc main_v112)
      ∧ after rGather VR (Proc.devRef .tc main_v117) = VR (Proc.devRef .tc main_v101) := by
  constructor
  · have h : ∀ i : S2x1000x1.Idx, broadcastInDim S2x1000x1 ![0, 1] Gen.bcast_S2x1000_S2x1000x1_0_1 (iotaInDim S2x1000 32 1) i
        = BitVec.ofNat 32 (i 1).val := fun i => rfl
    rw [rows_read, ho, wrapped_nonneg _ _ fun i => (iota_toInt _ h i).1, gather_rows_self _ _ h]
    exact select_all _ _ _ fun j => inRange_of _ _ (fun i => (iota_toInt _ h i).1) (fun i => (iota_toInt _ h i).2) _
  · rw [flags_read, ho, gather_flags_self _ _ flagColumn_iota]
    exact select_all _ _ _ fun j => inRange_of _ _ (fun i => (iota_toInt _ flagColumn_iota i).1) (fun i => (iota_toInt _ flagColumn_iota i).2) _

end Cert.V01

end
-- ==== Proof.V01.Scatters.lean ====
/- The two scatters: the class written off in every row, and the kept flags put back in order. -/
module

public import proofs.«01_k».proof.Proof.V01.Gathers
public import Idealize.ShloMosaic.Lib.Routing.OpsPair
public import Idealize.ShloMosaic.Lib.Routing.OpsSet

@[expose] public section

set_option maxRecDepth 16384

noncomputable section

namespace Cert.V01

open ReferenceIdeal
open Idealize.ShloMosaic.ValueIdx Idealize.ShloMosaic.Routing
open Idealize.ShloMosaic Idealize.ShloMosaic.StableHlo Idealize.SL.Sem

/-- One class written over in every row: the update lands at that class, whichever row. -/
theorem class_lands (k : S2x16384.Idx) : scatter_S2x16384x80_S1_S2x16384_01_2_2_0.resultIdx? k (fun _ => 79#32 : IVec S1 32)
    = some (ix3 (k 0) (k 1) (79 : Fin 80)) := by
  have e : ∀ a : Fin 3, scatter_S2x16384x80_S1_S2x16384_01_2_2_0.start k (fun _ => 79#32 : IVec S1 32) a
      + scatter_S2x16384x80_S1_S2x16384_01_2_2_0.window k a = ((ix3 (k 0) (k 1) (79 : Fin 80) a).val : Int) := by
    intro a
    fin_cases a
    · show (0 : Int) + ((k 0).val : Int) = ((k 0).val : Int)
      omega
    · show (0 : Int) + ((k 1).val : Int) = ((k 1).val : Int)
      omega
    · rfl
  unfold ScatterDims.resultIdx?
  rw [dif_pos fun a => by
    rw [e a]
    exact ⟨Int.natCast_nonneg _, Int.ofNat_lt.2 (ix3 (k 0) (k 1) (79 : Fin 80) a).isLt⟩]
  congr 1
  funext a
  apply Fin.ext
  show (_ : Int).toNat = _
  rw [e a]
  rfl

/-- The scatter of a row's value over class 79, read at an element. -/
theorem class_scatter {α : Type} (x : S2x16384x80.Idx → α) (v : α) (i : S2x16384x80.Idx) :
    Host.scatter scatter_S2x16384x80_S1_S2x16384_01_2_2_0 (fun _ b => b) x (fun _ => 79#32 : IVec S1 32) (fun _ => v) i
      = if (i 2).val = 79 then v else x i := by
  by_cases h : (i 2).val = 79
  · rw [if_pos h]
    refine scatter_set_hit _ x _ _ i v (fun _ _ => rfl) (ix2 (i 0) (i 1)) ?_
    rw [class_lands]
    congr 1
    funext a
    fin_cases a
    · rfl
    · rfl
    · exact Fin.ext h.symm
  · rw [if_neg h]
    refine scatter_set_miss _ x _ _ i fun k hk => h ?_
    rw [class_lands] at hk
    rw [← Option.some.inj hk]
    rfl

/-- The (row, position) pairs the flags are put back at. -/
def backAt (o : IVec S2x1000 32) : IVec S2x1000x2 32 :=
  concatenate S2x1000x2 2
    [⟨S2x1000x1, broadcastInDim S2x1000x1 ![0, 1] Gen.bcast_S2x1000_S2x1000x1_0_1 (broadcastInDim S2x1000 ![0, 1] Gen.bcast_S2x1_S2x1000_0_1
      (select (cmpi .slt (broadcastInDim S2x1 ![0] Gen.bcast_S2_S2x1_0 (iotaInDim S2 32 0)) (broadcastInDim S2x1 ![] Gen.bcast_S_S2x1 (constantI S_ 32 0#32)))
        (addi (broadcastInDim S2x1 ![0] Gen.bcast_S2_S2x1_0 (iotaInDim S2 32 0)) (broadcastInDim S2x1 ![] Gen.bcast_S_S2x1 (constantI S_ 32 2#32)))
        (broadcastInDim S2x1 ![0] Gen.bcast_S2_S2x1_0 (iotaInDim S2 32 0))))⟩,
     ⟨S2x1000x1, broadcastInDim S2x1000x1 ![0, 1] Gen.bcast_S2x1000_S2x1000x1_0_1
      (select (cmpi .slt o (broadcastInDim S2x1000 ![] Gen.bcast_S_S2x1000 (constantI S_ 32 0#32)))
        (addi o (broadcastInDim S2x1000 ![] Gen.bcast_S_S2x1000 (constantI S_ 32 1000#32))) o)⟩]
    Gen.concatenates_S2x1000x1_S2x1000x1_S2x1000x2_d2

/-- The flags put back: what the program reads. -/
theorem back_read (VR : RV) : after rUnsort VR (Proc.devRef .tc main_v177)
    = Host.scatter scatter_S2x1000_S2x1000x2_S2x1000_n_01_01_2 (fun _ b => b)
        (broadcastInDim S2x1000 ![] Gen.bcast_S_S2x1000 (constantI S_ 1 0#1)) (backAt (VR (Proc.devRef .tc main_v114)))
        (VR (Proc.devRef .tc main_v159_4)) := by
  after_reads_simp
  rfl

/-- The row half of a pair. -/
theorem backAt_row (o : IVec S2x1000 32) (a : Fin 2) (b : Fin 1000) : (backAt o (ix3 a b (0 : Fin 2))).toInt = a.val := by
  have e : backAt o (ix3 a b (0 : Fin 2))
      = Scalar.select (IntOp.cmpi .slt (BitVec.ofNat 32 a.val) 0#32) (IntOp.addi (BitVec.ofNat 32 a.val) 2#32) (BitVec.ofNat 32 a.val) := rfl
  have ha := a.isLt
  rw [e, wrap_nonneg _ _ (by rw [toInt_small (by omega)]; omega), toInt_small (by omega)]

/-- The position half of a pair, when the order is the positions themselves. -/
theorem backAt_pos (a : Fin 2) (b : Fin 1000) : (backAt (iotaInDim S2x1000 32 1) (ix3 a b (1 : Fin 2))).toInt = b.val := by
  have e : backAt (iotaInDim S2x1000 32 1) (ix3 a b (1 : Fin 2))
      = Scalar.select (IntOp.cmpi .slt (BitVec.ofNat 32 b.val) 0#32) (IntOp.addi (BitVec.ofNat 32 b.val) 1000#32) (BitVec.ofNat 32 b.val) := rfl
  have hb := b.isLt
  rw [e, wrap_nonneg _ _ (by rw [toInt_small (by omega)]; omega), toInt_small (by omega)]

/-- The flags put back by the positions themselves are the flags. -/
theorem back_agree (VR : RV) (ho : VR (Proc.devRef .tc main_v114) = iotaInDim S2x1000 32 1) :
    after rUnsort VR (Proc.devRef .tc main_v177) = VR (Proc.devRef .tc main_v159_4) := by
  rw [back_read, ho]
  have hl : ∀ (a : Fin 2) (b : Fin 1000) (r : Fin 2) (c : Fin 1000),
      scatter_S2x1000_S2x1000x2_S2x1000_n_01_01_2.resultIdx? (ix2 a b) (backAt (iotaInDim S2x1000 32 1)) = some (ix2 r c)
        ↔ a = r ∧ b = c := by
    intro a b r c
    rw [scatter_lands2 scatter_S2x1000_S2x1000x2_S2x1000_n_01_01_2 rfl rfl rfl (backAt (iotaInDim S2x1000 32 1)) a b r c,
      backAt_row, backAt_pos, Int.ofNat_inj, Int.ofNat_inj, Fin.val_inj, Fin.val_inj]
  have hix : ∀ j : S2x1000.Idx, ix2 (j 0) (j 1) = j := fun j => by funext a; fin_cases a <;> rfl
  funext j
  rw [← hix j]
  refine scatter_set_hit _ _ _ _ _ _ (fun k hk => ?_) (ix2 (j 0) (j 1)) ((hl _ _ _ _).2 ⟨rfl, rfl⟩)
  rw [← hix k] at hk ⊢
  obtain ⟨h0, h1⟩ := (hl _ _ _ _).1 hk
  rw [h0, h1]

end Cert.V01

end
-- ==== Proof.V01.Indices.lean ====
/- The picked locations are locations of the feature map: a flat position divided by the number of classes. -/
module

public import proofs.«01_k».proof.Proof.V01.Gathers
public import Idealize.ShloMosaic.PureOps.Ideal
public import Idealize.ShloMosaic.Lib.Routing.Words

@[expose] public section

set_option maxRecDepth 16384

noncomputable section

namespace Cert.V01

open ReferenceIdeal
open Idealize.ShloMosaic Idealize.ShloMosaic.StableHlo Idealize.SL.Sem

/-- The position a top-K entry carries is a position of the row. -/
theorem topK_pos {N K : Nat} (x : (⟨2, ![2, N]⟩ : Shape).Idx → EReal)
    (h : (⟨2, ![2, N]⟩ : Shape).Slices (fun _ => 0) ⟨2, ![2, K]⟩) (j : (⟨2, ![2, K]⟩ : Shape).Idx) :
    ∃ n < N, (Host.topK (⟨2, ![2, K]⟩ : Shape) 1 (FloatOps.cmpfTotal (F := Ideal) (φ := .f32) .gt) x h).2 j = BitVec.ofNat 32 n := by
  have key : ∀ i : (⟨2, ![2, N]⟩ : Shape).Idx, ∃ n < N,
      (Host.sort2 (⟨2, ![2, N]⟩ : Shape) 1 (fun l r : EReal × BitVec 32 => FloatOps.cmpfTotal (F := Ideal) (φ := .f32) .gt l.1 r.1) x
          (fun i => iotaInDim (⟨2, ![2, N]⟩ : Shape) 32 (1 : Fin 2) i)).2 i = BitVec.ofNat 32 n := by
    intro i
    unfold Host.sort2
    rw [dif_pos (show 1 < (⟨2, ![2, N]⟩ : Shape).rank from Nat.lt_succ_self 1)]
    refine ⟨_, ?_, rfl⟩
    exact Fin.isLt (n := N) _
  exact key _

/-- Division of a flat position by the number of classes, rounded towards minus infinity. -/
def floorDiv80 (o : IVec S2x1000 32) : IVec S2x1000 32 :=
  select
    (andi
      (cmpi .ne (signi o) (broadcastInDim S2x1000 ![] Gen.bcast_S_S2x1000 (signi (constantI S_ 32 80#32))))
      (cmpi .ne (Host.remsi o (broadcastInDim S2x1000 ![] Gen.bcast_S_S2x1000 (constantI S_ 32 80#32)))
        (broadcastInDim S2x1000 ![] Gen.bcast_S_S2x1000 (constantI S_ 32 0#32))))
    (subi (Host.divsi o (broadcastInDim S2x1000 ![] Gen.bcast_S_S2x1000 (constantI S_ 32 80#32)))
      (broadcastInDim S2x1000 ![] Gen.bcast_S_S2x1000 (constantI S_ 32 1#32)))
    (Host.divsi o (broadcastInDim S2x1000 ![] Gen.bcast_S_S2x1000 (constantI S_ 32 80#32)))

/-- Of a position that is not negative it is the plain quotient. -/
theorem floorDiv80_of (o : IVec S2x1000 32) (j : S2x1000.Idx) (n : Nat) (hn : n < 2 ^ 31) (h : o j = BitVec.ofNat 32 n) :
    floorDiv80 o j = BitVec.ofNat 32 (n / 80) := by
  have hb : signi (constantI S_ 32 80#32) = fun _ => 1#32 := by exact funext fun i => (by decide : (if (80#32 : BitVec 32) = 0 then (0 : BitVec 32) else if (80#32 : BitVec 32).msb then -1 else 1) = 1#32)
  unfold floorDiv80
  rw [hb]
  show Scalar.select (IntOp.andi
      (IntOp.cmpi .ne (signi o j) 1#32)
      (IntOp.cmpi .ne (IntOp.remsi .host (o j) 80#32) 0#32))
    (IntOp.subi (IntOp.divsi .host (o j) 80#32) 1#32) (IntOp.divsi .host (o j) 80#32) = _
  rw [h, Routing.divsi_word .host hn (b := 80) (by decide) (by decide), Routing.remsi_word .host hn (b := 80) (by decide) (by decide)]
  by_cases h0 : n = 0
  · subst h0
    have : IntOp.cmpi .ne (BitVec.ofNat 32 (0 % 80)) 0#32 = 0#1 := by decide
    rw [this]
    have : ∀ b : BitVec 1, IntOp.andi b 0#1 = 0#1 := by decide
    rw [this]
    rfl
  · have hs : signi o j = 1#32 := by
      show (if o j = 0 then 0 else if (o j).msb then -1 else 1 : BitVec 32) = 1
      rw [h]
      have hne : BitVec.ofNat 32 n ≠ 0 := fun e => by
        have := congrArg BitVec.toNat e
        rw [BitVec.toNat_ofNat, Nat.mod_eq_of_lt (by omega)] at this
        simp at this
        omega
      have hm : (BitVec.ofNat 32 n).msb = false := by
        rw [BitVec.msb_eq_false_iff_two_mul_lt, BitVec.toNat_ofNat, Nat.mod_eq_of_lt (by omega)]
        omega
      rw [if_neg hne, hm]
      rfl
    rw [hs]
    have : IntOp.cmpi .ne 1#32 1#32 = 0#1 := by decide
    rw [this]
    have : ∀ b : BitVec 1, IntOp.andi 0#1 b = 0#1 := by decide
    rw [this]
    rfl

/-- The column of picked locations, from the picked flat positions. -/
theorem column_read (VR : RV) : after rPick VR (Proc.devRef .tc main_v43)
    = broadcastInDim S2x1000x1 ![0, 1] Gen.bcast_S2x1000_S2x1000x1_0_1 (floorDiv80 (after rPick VR (Proc.devRef .tc main_indices))) := by
  after_reads_simp
  generalize Host.topK S2x1000 1 (FloatOps.cmpfTotal (F := Ideal) (φ := .f32) .gt) _ _ = T
  simp only [StableHlo.TRef.ofBuf_toBuf]
  rfl

/-- The picked flat positions. -/
theorem positions_read (VR : RV) (j : S2x1000.Idx) : ∃ n < 1310720,
    after rPick VR (Proc.devRef .tc main_indices) j = BitVec.ofNat 32 n := by
  after_reads_simp
  exact topK_pos _ Gen.sliceFits_S2x1310720_S2x1000 j

/-- The quotients of positions of the flat scores are locations of the feature map. -/
theorem quotient_range (o : IVec S2x1000 32) (h : ∀ j, ∃ n < 1310720, o j = BitVec.ofNat 32 n) (j : S2x1000.Idx) :
    0 ≤ (floorDiv80 o j).toInt ∧ (floorDiv80 o j).toInt ≤ (16383#32 : BitVec 32).toInt := by
  obtain ⟨n, hn, e⟩ := h j
  rw [floorDiv80_of o j n (by omega) e, toInt_small (by omega)]
  exact ⟨by omega, by simp; omega⟩

/-- Every picked location is a location of the feature map. -/
theorem location_range (VR : RV) (i : S2x1000x1.Idx) :
    0 ≤ (after rPick VR (Proc.devRef .tc main_v43) i).toInt
      ∧ (after rPick VR (Proc.devRef .tc main_v43) i).toInt ≤ (16383#32 : BitVec 32).toInt := by
  rw [column_read]
  exact quotient_range _ (positions_read VR) _

end Cert.V01

end
-- ==== Proof.V01.Order.lean ====
/- Sorting: the stable sort of an ordered fiber is the identity, and a top-k lists its values in descending order. -/
module

public import proofs.«01_k».proof.Proof.V01.Stages
public import Idealize.ShloMosaic.Lib.SortFacts

@[expose] public section

set_option maxRecDepth 16384

noncomputable section

namespace Cert.V01

open Idealize.ShloMosaic Idealize.ShloMosaic.StableHlo Idealize.SL.Sem

/-- The stable sort of a list in which nothing later sorts before anything earlier leaves it. -/
theorem stableSort_of_ordered {ι : Type} (B : ι → ι → Bool) (l : List ι) (h : l.Pairwise fun a b => B b a = false) :
    stableSort B l = l := by
  induction l with
  | nil => rfl
  | cons a l ih =>
    obtain ⟨ha, hl⟩ := List.pairwise_cons.mp h
    unfold stableSort
    rw [ih hl]
    cases l with
    | nil => rfl
    | cons b l => unfold insertBefore; rw [ha b (by simp)]; rfl

/-- An ordered fiber's positions are sorted already. -/
theorem sortedFrom_of_ordered {n : Nat} (B : Fin n → Fin n → Bool) (h : ∀ i j, i < j → B j i = false) (k : Fin n) :
    sortedFrom B k = k := by
  have e : sortPositions n B = List.finRange n :=
    stableSort_of_ordered B _ ((List.pairwise_lt_finRange n).imp fun {a b} hab => h a b hab)
  unfold sortedFrom
  rw [List.get_of_eq e]
  simp

/-- A sort of pairs along an axis whose fibers are ordered already leaves the second operand. -/
theorem sort2_snd_of_ordered {s : Shape} {d : Nat} (hd : d < s.rank) {α β : Type} (cmp : α × β → α × β → BitVec 1) (x : s.Idx → α)
    (y : s.Idx → β) (h : ∀ (j : s.Idx) (k k' : Fin (s.size ⟨d, hd⟩)), k < k' →
      cmp (x (j.along ⟨d, hd⟩ k'), y (j.along ⟨d, hd⟩ k')) (x (j.along ⟨d, hd⟩ k), y (j.along ⟨d, hd⟩ k)) ≠ 1#1) :
    (Host.sort2 s d cmp x y).2 = y := by
  unfold Host.sort2
  rw [dif_pos hd]
  funext j
  show y (j.along _ (sortedFrom _ _)) = y j
  rw [sortedFrom_of_ordered _ fun i k hik => by simpa using h j i k hik]
  exact congrArg y (Function.update_eq_self _ _)

/-- A sort of pairs by "greater first" on extended reals lists the first operand in descending order. -/
theorem sort2_fst_desc {s : Shape} {d : Nat} (hd : d < s.rank) {β : Type} (x : s.Idx → EReal) (y : s.Idx → β) (j : s.Idx)
    (k k' : Fin (s.size ⟨d, hd⟩)) (hk : k < k') :
    (Host.sort2 s d (fun l r : EReal × β => FloatOps.cmpfTotal (F := Ideal) (φ := .f32) .gt l.1 r.1) x y).1 (j.along ⟨d, hd⟩ k')
      ≤ (Host.sort2 s d (fun l r : EReal × β => FloatOps.cmpfTotal (F := Ideal) (φ := .f32) .gt l.1 r.1) x y).1 (j.along ⟨d, hd⟩ k) := by
  unfold Host.sort2
  rw [dif_pos hd]
  have hB : ∀ p q : EReal, (FloatOps.cmpfTotal (F := Ideal) (φ := .f32) .gt p q == 1#1) = decide (q < p) := by
    intro p q
    show (BitVec.ofBool (decide (q < p)) == 1#1) = decide (q < p)
    cases decide (q < p) <;> rfl
  have hal : ∀ i : Fin (s.size ⟨d, hd⟩), (j.along ⟨d, hd⟩ i) ⟨d, hd⟩ = i := fun i => Function.update_self ..
  have hal2 : ∀ i i' : Fin (s.size ⟨d, hd⟩), (j.along ⟨d, hd⟩ i).along ⟨d, hd⟩ i' = j.along ⟨d, hd⟩ i' := fun i i' =>
    Function.update_idem ..
  show x ((j.along _ k').along _ (sortedFrom _ _)) ≤ x ((j.along _ k).along _ (sortedFrom _ _))
  simp only [hal2, hal, hB]
  have h := sortedFrom_noInversion (fun a b : Fin (s.size ⟨d, hd⟩) => decide (x (j.along ⟨d, hd⟩ b) < x (j.along ⟨d, hd⟩ a)))
    (fun a b : Fin (s.size ⟨d, hd⟩) => decide (x (j.along ⟨d, hd⟩ b) < x (j.along ⟨d, hd⟩ a)))
    (fun a b h => by simp only [decide_eq_true_eq, decide_eq_false_iff_not] at h ⊢; exact not_lt.2 h.le)
    (fun a b h => h)
    (fun a b c h h' => by simp only [decide_eq_false_iff_not, not_lt] at h h' ⊢; exact h.trans h') k k' hk
  simpa using h

end Cert.V01

end
-- ==== Proof.V01.Scores.lean ====
/- The scores are in descending order, so the argsort of their negatives is the positions themselves. -/
module

public import proofs.«01_k».proof.Proof.V01.Order
public import proofs.«01_k».proof.Proof.V01.Gathers
public import Idealize.ShloMosaic.PureOps.Ideal
public import Idealize.ShloMosaic.Lib.IdealHost

@[expose] public section

set_option maxRecDepth 16384

noncomputable section

namespace Cert.V01

open ReferenceIdeal
open Idealize.ShloMosaic.ValueIdx
open Idealize.ShloMosaic Idealize.ShloMosaic.StableHlo Idealize.SL.Sem

/-- The greatest entries of a row, listed in descending order. -/
theorem topK_desc {N K : Nat} (x : (⟨2, ![2, N]⟩ : Shape).Idx → EReal)
    (h : (⟨2, ![2, N]⟩ : Shape).Slices (fun _ => 0) ⟨2, ![2, K]⟩) (b : Fin 2) (k k' : Fin K) (hk : k < k') :
    (Host.topK (⟨2, ![2, K]⟩ : Shape) 1 (FloatOps.cmpfTotal (F := Ideal) (φ := .f32) .gt) x h).1 (ix2 b k')
      ≤ (Host.topK (⟨2, ![2, K]⟩ : Shape) 1 (FloatOps.cmpfTotal (F := Ideal) (φ := .f32) .gt) x h).1 (ix2 b k) := by
  have hN : K ≤ N := by simpa using h.2 1
  have e : ∀ q : Fin K, (fun a : Fin 2 => (⟨0 + (ix2 b q (a.cast h.1.symm)).val,
        Nat.lt_of_lt_of_le (Nat.add_lt_add_left (ix2 b q _).isLt _) (h.2 a)⟩ : Fin ((⟨2, ![2, N]⟩ : Shape).size a)))
      = Shape.Idx.along (s := ⟨2, ![2, N]⟩) (ix2 b (q.castLE hN)) 1 (q.castLE hN) := by
    intro q
    funext a
    fin_cases a
    · exact Fin.ext (Nat.zero_add _)
    · exact Fin.ext (Nat.zero_add _)
  have e' : ∀ q : Fin K, Shape.Idx.along (s := ⟨2, ![2, N]⟩) (ix2 b (q.castLE hN)) 1 (q.castLE hN)
      = Shape.Idx.along (s := ⟨2, ![2, N]⟩) (ix2 b (k.castLE hN)) 1 (q.castLE hN) := by
    intro q
    funext a
    fin_cases a <;> rfl
  have r : ∀ q : Fin K, (Host.topK (⟨2, ![2, K]⟩ : Shape) 1 (FloatOps.cmpfTotal (F := Ideal) (φ := .f32) .gt) x h).1 (ix2 b q)
      = (Host.sort2 (⟨2, ![2, N]⟩ : Shape) 1 (fun l r : EReal × BitVec 32 => FloatOps.cmpfTotal (F := Ideal) (φ := .f32) .gt l.1 r.1) x
          (fun i => iotaInDim (⟨2, ![2, N]⟩ : Shape) 32 (1 : Fin 2) i)).1
          (Shape.Idx.along (s := ⟨2, ![2, N]⟩) (ix2 b (q.castLE hN)) 1 (q.castLE hN)) := fun q => by
    rw [← e q]
    rfl
  rw [r k', r k, e' k']
  exact sort2_fst_desc (s := ⟨2, ![2, N]⟩) (Nat.lt_succ_self 1) x _ _ _ _ hk

/-- A candidate's score: the root of a positive value, 0 of any other. -/
def scoreOf (v : EReal) : EReal := if 0 < v then Ideal.sqrt v else 0

/-- A root of a nonnegative value is nonnegative. -/
theorem sqrt_nonneg {v : EReal} (h : 0 ≤ v) : 0 ≤ Ideal.sqrt v := by
  induction v with
  | bot => exact absurd h (by simp)
  | top => exact le_top
  | coe r =>
    have hr : 0 ≤ r := EReal.coe_nonneg.1 h
    show 0 ≤ (if r < 0 then (⊥ : EReal) else (Real.sqrt r : EReal))
    rw [if_neg (not_lt.2 hr)]
    exact EReal.coe_nonneg.2 (Real.sqrt_nonneg r)

/-- Roots keep the order of nonnegative values. -/
theorem sqrt_mono {u v : EReal} (hu : 0 ≤ u) (h : u ≤ v) : Ideal.sqrt u ≤ Ideal.sqrt v := by
  induction v with
  | bot => exact absurd (hu.trans h) (by simp)
  | top => exact le_top
  | coe r =>
    induction u with
    | bot => exact absurd hu (by simp)
    | top => exact absurd h (by simp)
    | coe q =>
      have hq : 0 ≤ q := EReal.coe_nonneg.1 hu
      have hqr : q ≤ r := EReal.coe_le_coe_iff.1 h
      show (if q < 0 then (⊥ : EReal) else (Real.sqrt q : EReal)) ≤ (if r < 0 then (⊥ : EReal) else (Real.sqrt r : EReal))
      rw [if_neg (not_lt.2 hq), if_neg (not_lt.2 (hq.trans hqr))]
      exact EReal.coe_le_coe_iff.2 (Real.sqrt_le_sqrt hqr)

/-- The score keeps the order of the values. -/
theorem scoreOf_mono {u v : EReal} (h : u ≤ v) : scoreOf u ≤ scoreOf v := by
  unfold scoreOf
  by_cases hu : 0 < u
  · rw [if_pos hu, if_pos (hu.trans_le h)]
    exact sqrt_mono hu.le h
  · rw [if_neg hu]
    split
    · exact sqrt_nonneg (le_of_lt (by assumption))
    · exact le_refl _

/-- The value an f32 zero word denotes. -/
theorem zero_word : (FloatOps.ofBits (F := Ideal) .f32 0x00000000#32 : EReal) = 0 := Ideal.ofBits_zero_f32

/-- The argsort's comparator says "before" exactly of a lesser first component. -/
theorem before_iff (l r : EReal × BitVec 32) : comparator_f32_i32_d1 (F := Ideal) l r = 1#1 ↔ l.1 < r.1 := by
  have hz : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    have h1 : FloatOps.cmpf (F := Ideal) (φ := .f32) .une x x = 0#1 := by
      show BitVec.ofBool (decide (x ≠ x)) = 0#1
      simp
    rw [h1]
    show Scalar.select (BitVec.ofBool (decide (x = FloatOps.ofBits (F := Ideal) .f32 0x00000000#32))) _ x = x
    by_cases hx : x = FloatOps.ofBits (F := Ideal) .f32 0x00000000#32
    · rw [decide_eq_true hx]; exact hx.symm
    · rw [decide_eq_false hx]; rfl
  unfold comparator_f32_i32_d1
  simp only [hz]
  show BitVec.ofBool (decide (l.1 < r.1)) = 1#1 ↔ _
  by_cases h : l.1 < r.1
  · simp [h]
  · simp [h]

/-- The argsort of ordered keys is the positions themselves. -/
theorem order_agree (VR : RV) (K : S2x1000.Idx → EReal) (hK : VR (Proc.devRef .tc main_v113) = K)
    (hs : ∀ (b : Fin 2) (k k' : Fin 1000), k < k' → K (ix2 b k) ≤ K (ix2 b k')) :
    after rOrder VR (Proc.devRef .tc main_v114) = iotaInDim S2x1000 32 1 := by
  after_reads_simp
  rw [hK]
  refine sort2_snd_of_ordered (s := S2x1000) (by decide) (comparator_f32_i32_d1 (F := Ideal)) K _ fun j k k' hk => ?_
  rw [Ne, before_iff, not_lt]
  have e : ∀ q : Fin 1000, Shape.Idx.along (s := S2x1000) j 1 q = ix2 (j 0) q := fun q => by funext a; fin_cases a <;> rfl
  show K (Shape.Idx.along (s := S2x1000) j 1 k) ≤ K (Shape.Idx.along (s := S2x1000) j 1 k')
  rw [e k, e k']
  exact hs (j 0) k k' hk

/-- The picked values of a row are in descending order. -/
theorem values_desc (VR : RV) (T : S2x1000.Idx → EReal) (hT : after rPick VR (Proc.devRef .tc main_values) = T)
    (b : Fin 2) (k k' : Fin 1000) (hk : k < k') : T (ix2 b k') ≤ T (ix2 b k) := by
  rw [← hT]
  after_reads_simp
  exact topK_desc _ Gen.sliceFits_S2x1310720_S2x1000 b k k' hk

/-- The score test of the picked values. -/
theorem test_read (VR : RV) (T : S2x1000.Idx → EReal) (hT : after rPick VR (Proc.devRef .tc main_values) = T) (j : S2x1000.Idx) :
    after rPick VR (Proc.devRef .tc main_v35) j = BitVec.ofBool (decide (0 < T j)) := by
  have e : after rPick VR (Proc.devRef .tc main_v35)
      = cmpf (F := Ideal) (φ := .f32) .ogt (after rPick VR (Proc.devRef .tc main_values))
          (broadcastInDim S2x1000 ![] Gen.bcast_S_S2x1000 (constant (F := Ideal) S_ .f32 0x00000000#32)) := by
    after_reads_simp
  rw [e, hT]
  show BitVec.ofBool (decide (FloatOps.ofBits (F := Ideal) .f32 0x00000000#32 < T j)) = _
  rw [zero_word]

/-- The scores of the picked values, when the validity is the score test. -/
theorem score_read (VR : RV) (T : S2x1000.Idx → EReal) (hT : VR (Proc.devRef .tc main_values) = T)
    (hv : ∀ j, VR (Proc.devRef .tc main_v101) j = BitVec.ofBool (decide (0 < T j))) (j : S2x1000.Idx) :
    after rScore VR (Proc.devRef .tc main_v104) j = scoreOf (T j) := by
  after_reads_simp
  rw [hT]
  show Scalar.select (VR (Proc.devRef .tc main_v101) j) (Ideal.sqrt (Scalar.select (VR (Proc.devRef .tc main_v101) j) (T j) _))
    (FloatOps.ofBits (F := Ideal) .f32 0x00000000#32) = _
  rw [hv j, zero_word, scoreOf]
  by_cases h : 0 < T j
  · rw [decide_eq_true h, if_pos h]; rfl
  · rw [decide_eq_false h, if_neg h]; rfl

/-- The sort's keys are the scores' negatives. -/
theorem key_read (VR : RV) (S : S2x1000.Idx → EReal) (hS : VR (Proc.devRef .tc main_v104) = S) :
    after rShift VR (Proc.devRef .tc main_v113) = fun j => -(S j) := by
  after_reads_simp
  rw [hS]
  rfl

end Cert.V01

end
-- ==== Proof.V01.Validity.lean ====
/- Every box is at least one unit wide and high when the regression is not negative, so a candidate's validity is its score test. -/
module

public import proofs.«01_k».proof.Proof.V01.Indices
public import proofs.«01_k».proof.Proof.V01.Scores

@[expose] public section

set_option maxRecDepth 16384

noncomputable section

namespace Cert.V01

open ReferenceIdeal
open Idealize.ShloMosaic Idealize.ShloMosaic.StableHlo Idealize.SL.Sem

/-- The regression of the picked locations. -/
theorem regression_read (VR : RV) : after rCoord VR (Proc.devRef .tc main_v44)
    = select (α := EReal) (broadcastInDim S2x1000x4 ![0, 1] Gen.bcast_S2x1000_S2x1000x4_0_1
        (inRange 16383#32 (wrapped 16384#32 (VR (Proc.devRef .tc main_v43)))))
      (Host.gather gather_S2x16384x4_S2x1000x1_S2x1000x4_2_1_0_0_1_2_114 (VR (Proc.devRef .tc main_v14))
        (wrapped 16384#32 (VR (Proc.devRef .tc main_v43))))
      (broadcastInDim S2x1000x4 ![] Gen.bcast_S_S2x1000x4 (constant (F := Ideal) S_ .f32 0x7FC00000#32)) := by
  after_reads_simp
  rfl

/-- It is not negative when the whole regression is not. -/
theorem regression_nonneg (VR : RV) (G : S2x16384x4.Idx → EReal) (hG : VR (Proc.devRef .tc main_v14) = G) (h0 : ∀ i, 0 ≤ G i)
    (hr : ∀ i : S2x1000x1.Idx, 0 ≤ (VR (Proc.devRef .tc main_v43) i).toInt
      ∧ (VR (Proc.devRef .tc main_v43) i).toInt ≤ (16383#32 : BitVec 32).toInt) :
    ∃ R : S2x1000x4.Idx → EReal, after rCoord VR (Proc.devRef .tc main_v44) = R ∧ ∀ j, 0 ≤ R j := by
  refine ⟨_, rfl, fun j => ?_⟩
  rw [regression_read, wrapped_nonneg _ _ fun i => (hr i).1, hG]
  refine le_of_le_of_eq ?_ (congrFun (select_all _ _ _ fun j => inRange_of _ _ (fun i => (hr i).1) (fun i => (hr i).2) _) j).symm
  exact h0 _

/-- A value clipped from below at 0, then from above at a bound, per row. -/
def clip (w : S2x1.Idx → EReal) (x : S2x1000.Idx → EReal) : S2x1000.Idx → EReal :=
  minimumf (F := Ideal) (φ := .f32) (broadcastInDim S2x1000 ![0, 1] Gen.bcast_S2x1_S2x1000_0_1 w)
    (maximumf (F := Ideal) (φ := .f32) (broadcastInDim S2x1000 ![] Gen.bcast_S_S2x1000 (constant (F := Ideal) S_ .f32 0x00000000#32)) x)

/-- One column of the picked regression. -/
def column (k : Nat) (h : S2x1000x4.Slices ![0, 0, k] S2x1000x1) (R : S2x1000x4.Idx → EReal) : S2x1000.Idx → EReal :=
  shapeCast S2x1000 (extractStridedSlice S2x1000x1 ![0, 0, k] R h) Gen.shapeCasts_S2x1000x1_S2x1000

/-- The left edge. -/
theorem left_read (VR : RV) : after rCoord VR (Proc.devRef .tc main_v75)
    = clip (after rCoord VR (Proc.devRef .tc main_v74)) (subf (F := Ideal) (φ := .f32) (after rCoord VR (Proc.devRef .tc main_v46))
        (column 0 Gen.slices_S2x1000x4_S2x1000x1_0_0_0 (after rCoord VR (Proc.devRef .tc main_v44)))) := by
  after_reads_simp
  rfl

/-- The right edge. -/
theorem right_read (VR : RV) : after rCoord VR (Proc.devRef .tc main_v81)
    = clip (after rCoord VR (Proc.devRef .tc main_v74)) (addf (F := Ideal) (φ := .f32) (after rCoord VR (Proc.devRef .tc main_v46))
        (column 2 Gen.slices_S2x1000x4_S2x1000x1_0_0_2 (after rCoord VR (Proc.devRef .tc main_v44)))) := by
  after_reads_simp
  rfl

/-- The top edge. -/
theorem top_read (VR : RV) : after rCoord VR (Proc.devRef .tc main_v78)
    = clip (after rCoord VR (Proc.devRef .tc main_v77)) (subf (F := Ideal) (φ := .f32) (after rCoord VR (Proc.devRef .tc main_v51))
        (column 1 Gen.slices_S2x1000x4_S2x1000x1_0_0_1 (after rCoord VR (Proc.devRef .tc main_v44)))) := by
  after_reads_simp
  rfl

/-- The bottom edge. -/
theorem bottom_read (VR : RV) : after rCoord VR (Proc.devRef .tc main_v84)
    = clip (after rCoord VR (Proc.devRef .tc main_v77)) (addf (F := Ideal) (φ := .f32) (after rCoord VR (Proc.devRef .tc main_v51))
        (column 3 Gen.slices_S2x1000x4_S2x1000x1_0_0_3 (after rCoord VR (Proc.devRef .tc main_v44)))) := by
  after_reads_simp
  rfl

/-- The word of 1.0 is 1. -/
theorem one_word : FloatOps.ofBits (F := Ideal) .f32 0x3F800000#32 = 1 := Ideal.ofBits_one_f32

/-- An image's extent, an integer, less 1 is a real number. -/
theorem size_real (n : S2.Idx → BitVec 32) : ∃ w : S2x1.Idx → ℝ,
    subf (F := Ideal) (φ := .f32) (broadcastInDim S2x1 ![0] Gen.bcast_S2_S2x1_0 (sitofp (F := Ideal) .f32 n))
      (broadcastInDim S2x1 ![] Gen.bcast_S_S2x1 (constant (F := Ideal) S_ .f32 0x3F800000#32)) = fun i => ((w i : ℝ) : EReal) := by
  refine ⟨fun i => broadcastInDim S2x1 ![0] Gen.bcast_S2_S2x1_0 (fun k => ((n k).toInt : ℝ)) i - 1, ?_⟩
  funext i
  show ((broadcastInDim S2x1 ![0] Gen.bcast_S2_S2x1_0 (fun k => ((n k).toInt : ℝ)) i : ℝ) : EReal)
    - FloatOps.ofBits (F := Ideal) .f32 0x3F800000#32 = _
  rw [one_word, EReal.coe_sub, EReal.coe_one]

/-- The largest horizontal coordinate of an image is a real number. -/
theorem width_real (VR : RV) : ∃ w : S2x1.Idx → ℝ, after rCoord VR (Proc.devRef .tc main_v74) = fun i => ((w i : ℝ) : EReal) := by
  after_reads_simp
  exact size_real _

/-- The largest vertical coordinate of an image is a real number. -/
theorem height_real (VR : RV) : ∃ w : S2x1.Idx → ℝ, after rCoord VR (Proc.devRef .tc main_v77) = fun i => ((w i : ℝ) : EReal) := by
  after_reads_simp
  exact size_real _

/-- Between two coordinates clipped to one real bound, the lower from subtracting and the upper from adding a distance that is not negative,
    there is an extent that is not negative. -/
theorem extent_nonneg (w : ℝ) (l a c : EReal) (ha : 0 ≤ a) (hc : 0 ≤ c) :
    0 ≤ min (w : EReal) (max 0 (l + c)) - min (w : EReal) (max 0 (l - a)) + 1 := by
  have hr : ∀ x : EReal, ∃ r : ℝ, min (w : EReal) (max 0 x) = r := by
    intro x
    have hb : min (w : EReal) (max 0 x) ≠ ⊥ := ne_of_gt (lt_min (EReal.bot_lt_coe w) (lt_of_lt_of_le EReal.bot_lt_zero (le_max_left _ _)))
    have ht : min (w : EReal) (max 0 x) ≠ ⊤ := ne_of_lt (lt_of_le_of_lt (min_le_left _ _) (EReal.coe_lt_top w))
    exact ⟨_, (EReal.coe_toReal ht hb).symm⟩
  have hle : l - a ≤ l + c := by
    rw [sub_eq_add_neg]
    exact add_le_add le_rfl (le_trans (by simpa using ha) hc)
  have hm : min (w : EReal) (max 0 (l - a)) ≤ min (w : EReal) (max 0 (l + c)) := min_le_min le_rfl (max_le_max le_rfl hle)
  obtain ⟨p, hp⟩ := hr (l + c)
  obtain ⟨q, hq⟩ := hr (l - a)
  rw [hp, hq] at hm ⊢
  have : q ≤ p := EReal.coe_le_coe_iff.1 hm
  rw [← EReal.coe_sub, ← EReal.coe_one, ← EReal.coe_add, ← EReal.coe_zero, EReal.coe_le_coe_iff]
  linarith

/-- The test that an extent is not negative holds of clipped coordinates. -/
theorem extent_test (w : S2x1.Idx → ℝ) (l a c : S2x1000.Idx → EReal) (ha : ∀ j, 0 ≤ a j) (hc : ∀ j, 0 ≤ c j) (j : S2x1000.Idx) :
    cmpf (F := Ideal) (φ := .f32) .oge
      (addf (F := Ideal) (φ := .f32)
        (subf (F := Ideal) (φ := .f32) (clip (fun i => ((w i : ℝ) : EReal)) (addf (F := Ideal) (φ := .f32) l c))
          (clip (fun i => ((w i : ℝ) : EReal)) (subf (F := Ideal) (φ := .f32) l a)))
        (broadcastInDim S2x1000 ![] Gen.bcast_S_S2x1000 (constant (F := Ideal) S_ .f32 0x3F800000#32)))
      (broadcastInDim S2x1000 ![] Gen.bcast_S_S2x1000 (constant (F := Ideal) S_ .f32 0x00000000#32)) j = 1#1 := by
  show BitVec.ofBool (decide (FloatOps.ofBits (F := Ideal) .f32 0x00000000#32
    ≤ min ((w _ : ℝ) : EReal) (max (FloatOps.ofBits (F := Ideal) .f32 0x00000000#32) (l j + c j))
      - min ((w _ : ℝ) : EReal) (max (FloatOps.ofBits (F := Ideal) .f32 0x00000000#32) (l j - a j))
      + FloatOps.ofBits (F := Ideal) .f32 0x3F800000#32)) = 1#1
  rw [zero_word, one_word, decide_eq_true (extent_nonneg _ _ _ _ (ha j) (hc j))]
  rfl

/-- The validity: the score test and the two tests of the extents. -/
theorem validity_read (VR : RV) : after rBoxes VR (Proc.devRef .tc main_v101)
    = andi (andi (VR (Proc.devRef .tc main_v35))
        (cmpf (F := Ideal) (φ := .f32) .oge
          (addf (F := Ideal) (φ := .f32) (subf (F := Ideal) (φ := .f32) (VR (Proc.devRef .tc main_v81)) (VR (Proc.devRef .tc main_v75)))
            (broadcastInDim S2x1000 ![] Gen.bcast_S_S2x1000 (constant (F := Ideal) S_ .f32 0x3F800000#32)))
          (broadcastInDim S2x1000 ![] Gen.bcast_S_S2x1000 (constant (F := Ideal) S_ .f32 0x00000000#32))))
        (cmpf (F := Ideal) (φ := .f32) .oge
          (addf (F := Ideal) (φ := .f32) (subf (F := Ideal) (φ := .f32) (VR (Proc.devRef .tc main_v84)) (VR (Proc.devRef .tc main_v78)))
            (broadcastInDim S2x1000 ![] Gen.bcast_S_S2x1000 (constant (F := Ideal) S_ .f32 0x3F800000#32)))
          (broadcastInDim S2x1000 ![] Gen.bcast_S_S2x1000 (constant (F := Ideal) S_ .f32 0x00000000#32))) := by
  after_reads_simp

/-- With a regression that is nowhere negative, the validity is the score test alone. -/
theorem validity_agree (VR : RV) (G : S2x16384x4.Idx → EReal) (hG : VR (Proc.devRef .tc main_v14) = G) (h0 : ∀ i, 0 ≤ G i)
    (hr : ∀ i : S2x1000x1.Idx, 0 ≤ (VR (Proc.devRef .tc main_v43) i).toInt
      ∧ (VR (Proc.devRef .tc main_v43) i).toInt ≤ (16383#32 : BitVec 32).toInt) :
    after rBoxes (after rCoord VR) (Proc.devRef .tc main_v101) = VR (Proc.devRef .tc main_v35) := by
  have h35 : after rCoord VR (Proc.devRef .tc main_v35) = VR (Proc.devRef .tc main_v35) := by after_reads_simp
  obtain ⟨R, hR, hR0⟩ := regression_nonneg VR G hG h0 hr
  obtain ⟨w, hw⟩ := width_real VR
  obtain ⟨u, hu⟩ := height_real VR
  rw [validity_read, h35, left_read, right_read, top_read, bottom_read, hR, hw, hu]
  funext j
  refine (congrArg₂ IntOp.andi (congrArg (IntOp.andi _) (extent_test w _ _ _ (fun _ => hR0 _) (fun _ => hR0 _) j))
    (extent_test u _ _ _ (fun _ => hR0 _) (fun _ => hR0 _) j)).trans ?_
  have : ∀ b : BitVec 1, IntOp.andi (IntOp.andi b 1#1) 1#1 = b := by decide
  exact this _

end Cert.V01

end
-- ==== Proof.V01.ScoreAgree.lean ====
/- The reference's masked scores are the first pallas_call's, and its scaled regression is not negative where the regression is not. -/
module

public import proofs.«01_k».proof.Proof.V01.ScoreRegion
public import proofs.«01_k».proof.Proof.V01.Scatters
public import proofs.«01_k».proof.Proof.V01.Validity

@[expose] public section

set_option maxRecDepth 16384

noncomputable section

namespace Cert.V01

open ReferenceIdeal
open Idealize.ShloMosaic.ValueIdx
open Idealize.ShloMosaic Idealize.ShloMosaic.StableHlo Idealize.SL.Sem

/-- The classification logits laid out location by location. -/
def logits (A : S2x80x128x128.Idx → EReal) : S2x16384x80.Idx → EReal :=
  shapeCast S2x16384x80 (transpose S2x128x128x80 [0, 2, 3, 1] A Gen.transposes_S2x80x128x128_S2x128x128x80_0_2_3_1) Gen.shapeCasts_S2x128x128x80_S2x16384x80

/-- The centerness logits laid out location by location. -/
def center (A : S2x1x128x128.Idx → EReal) : S2x16384.Idx → EReal :=
  shapeCast S2x16384 (transpose S2x128x128x1 [0, 2, 3, 1] A Gen.transposes_S2x1x128x128_S2x128x128x1_0_2_3_1) Gen.shapeCasts_S2x128x128x1_S2x16384

/-- The logistic function, written out over an array. -/
def sigmoids {s : Shape} (h : S_.BroadcastsInDim s ![]) (X : s.Idx → EReal) : s.Idx → EReal :=
  Host.divf (F := Ideal) (φ := .f32) (broadcastInDim s ![] h (constant (F := Ideal) S_ .f32 0x3F800000#32))
    (addf (F := Ideal) (φ := .f32) (broadcastInDim s ![] h (constant (F := Ideal) S_ .f32 0x3F800000#32))
      (Host.exp (F := Ideal) (φ := .f32) (Host.negf (F := Ideal) (φ := .f32) X)))

/-- It is the logistic function at every entry. -/
theorem sigmoids_apply {s : Shape} (h : S_.BroadcastsInDim s ![]) (X : s.Idx → EReal) (i : s.Idx) : sigmoids h X i = Ideal.logistic (X i) := by
  show Ideal.div (FloatOps.ofBits (F := Ideal) .f32 0x3F800000#32) (FloatOps.ofBits (F := Ideal) .f32 0x3F800000#32 + Ideal.exp (-(X i))) = _
  rw [one_word]
  rfl

/-- The scores with the last class's set to 0. -/
def zeroed (X : S2x16384x80.Idx → EReal) : S2x16384x80.Idx → EReal :=
  Host.scatter scatter_S2x16384x80_S1_S2x16384_01_2_2_0 (fun _ b => b) X
    (broadcastInDim S1 ![] Gen.bcast_S_S1 (constantI S_ 32 79#32))
    (broadcastInDim S2x16384 ![] Gen.bcast_S_S2x16384 (constant (F := Ideal) S_ .f32 0x00000000#32))

/-- Entry by entry. -/
theorem zeroed_apply (X : S2x16384x80.Idx → EReal) (i : S2x16384x80.Idx) :
    zeroed X i = if (i 2).val = 79 then FloatOps.ofBits (F := Ideal) .f32 0x00000000#32 else X i :=
  class_scatter X (FloatOps.ofBits (F := Ideal) .f32 0x00000000#32) i

/-- The reference's scores with the last class's set to 0. -/
theorem zeroed_read (VR : RV) : after rFlat VR (Proc.devRef .tc main_v10)
    = zeroed (sigmoids Gen.bcast_S_S2x16384x80 (logits (VR (Proc.devRef .tc main_arg1)))) := by
  after_reads_simp
  unfold zeroed sigmoids logits
  rfl

/-- The reference's centerness scores. -/
theorem center_read (VR : RV) : after rFlat VR (Proc.devRef .tc main_v22)
    = sigmoids Gen.bcast_S_S2x16384 (center (VR (Proc.devRef .tc main_arg3))) := by
  after_reads_simp
  unfold sigmoids center
  rfl

/-- The masking of scores `Z` with centerness scores `C`. -/
def masking (Z : S2x16384x80.Idx → EReal) (C : S2x16384.Idx → EReal) : S2x16384x80.Idx → EReal :=
  select (cmpf (F := Ideal) (φ := .f32) .ogt Z
      (broadcastInDim S2x16384x80 ![] Gen.bcast_S_S2x16384x80 (constant (F := Ideal) S_ .f32 0x3D4CCCCD#32)))
    (mulf (F := Ideal) (φ := .f32) Z
      (broadcastInDim S2x16384x80 ![0, 1, 2] Gen.bcast_S2x16384x1_S2x16384x80_0_1_2
        (broadcastInDim S2x16384x1 ![0, 1] Gen.bcast_S2x16384_S2x16384x1_0_1 C)))
    (broadcastInDim S2x16384x80 ![] Gen.bcast_S_S2x16384x80 (constant (F := Ideal) S_ .f32 0xBF800000#32))

/-- The reference's masked scores. -/
theorem flat_read (VR : RV) : after rFlat VR (Proc.devRef .tc main_v28)
    = masking (after rFlat VR (Proc.devRef .tc main_v10)) (after rFlat VR (Proc.devRef .tc main_v22)) := by
  unfold masking
  after_reads_simp
  simp only [StableHlo.TRef.ofBuf_toBuf]
  generalize Host.scatter scatter_S2x16384x80_S1_S2x16384_01_2_2_0 _ _ _ _ = Z
  rfl

/-- The centerness logits with a unit axis are those without. -/
theorem center_unit (A : S2x1x128x128.Idx → EReal) (b : Fin 2) (l : Fin 16384)
    (h : S2x128x128x1.ShapeCasts S2x16384x1) :
    shapeCast S2x16384x1 (transpose S2x128x128x1 [0, 2, 3, 1] A Gen.transposes_S2x1x128x128_S2x128x128x1_0_2_3_1) h (ix3 b l (0 : Fin 1))
      = center A (ix2 b l) := by
  have e : (S2x16384x1.rowMajor (ix3 b l (0 : Fin 1))).val = (S2x16384.rowMajor (ix2 b l)).val := by
    rw [Shape.rowMajor_val_three, Shape.rowMajor_val_two]
    show (b.val * 16384 + l.val) * 1 + 0 = b.val * 16384 + l.val
    omega
  unfold center
  unfold shapeCast
  congr 1

/-- The reference's masked scores, entry by entry. -/
theorem flat_agree (VR : RV) (A1 : S2x80x128x128.Idx → EReal) (A3 : S2x1x128x128.Idx → EReal)
    (h1 : VR (Proc.devRef .tc main_arg1) = A1) (h3 : VR (Proc.devRef .tc main_arg3) = A3) (h : S2x128x128x1.ShapeCasts S2x16384x1) :
    after rFlat VR (Proc.devRef .tc main_v28) = maskedScores (logits A1)
      (shapeCast S2x16384x1 (transpose S2x128x128x1 [0, 2, 3, 1] A3 Gen.transposes_S2x1x128x128_S2x128x128x1_0_2_3_1) h) := by
  rw [flat_read, zeroed_read, center_read, h1, h3]
  unfold masking
  funext i
  refine Eq.trans ?_ (congrArg (fun z => maskedScore (logits A1 i) z (i 2).val) (center_unit A3 (i 0) (i 1) h).symm)
  unfold maskedScore
  have e : zeroed (sigmoids Gen.bcast_S_S2x16384x80 (logits A1)) i
      = if (i 2).val = 79 then FloatOps.ofBits (F := Ideal) .f32 0x00000000#32 else Ideal.logistic (logits A1 i) := by
    rw [zeroed_apply, sigmoids_apply]
  have e' : sigmoids Gen.bcast_S_S2x16384 (center A3) (ix2 (i 0) (i 1)) = Ideal.logistic (center A3 (ix2 (i 0) (i 1))) := sigmoids_apply _ _ _
  have eb : broadcastInDim S2x16384x80 ![0, 1, 2] Gen.bcast_S2x16384x1_S2x16384x80_0_1_2
          (broadcastInDim S2x16384x1 ![0, 1] Gen.bcast_S2x16384_S2x16384x1_0_1 (sigmoids Gen.bcast_S_S2x16384 (center A3))) i
      = Ideal.logistic (center A3 (ix2 (i 0) (i 1))) :=
    ((broadcastInDim_apply _ _ _ _ (ix3 (i 0) (i 1) (0 : Fin 1)) (by intro a; fin_cases a <;> rfl)).trans
      (broadcastInDim_apply _ _ _ _ (ix2 (i 0) (i 1)) (by intro a; fin_cases a <;> rfl))).trans e'
  rw [← eb, ← e]
  rfl

/-- The word of 8.0 is 8. -/
theorem eight_word : FloatOps.ofBits (F := Ideal) .f32 0x41000000#32 = ((8 : ℝ) : EReal) := by
  show Ideal.ofBits .f32 0x41000000#32 = _
  simp [Ideal.ofBits, Ideal.ieee, -EReal.coe_mul]
  norm_num

/-- The scaled regression is the regression laid out location by location, times the stride: it is not negative where the regression is not. -/
theorem scaled_nonneg (VR : RV) (A : S2x4x128x128.Idx → EReal) (hA : VR (Proc.devRef .tc main_arg2) = A) (h0 : ∀ i, 0 ≤ A i) :
    ∃ G : S2x16384x4.Idx → EReal, after rFlat VR (Proc.devRef .tc main_v14) = G ∧ ∀ i, 0 ≤ G i := by
  refine ⟨_, rfl, fun i => ?_⟩
  after_reads_simp
  rw [hA]
  show 0 ≤ A _ * FloatOps.ofBits (F := Ideal) .f32 0x41000000#32
  exact mul_nonneg (h0 _) (by rw [show FloatOps.ofBits (F := Ideal) .f32 0x41000000#32 = ((8 : ℝ) : EReal) from eight_word]; exact_mod_cast (by norm_num : (0:ℝ) ≤ 8))

end Cert.V01

end
-- ==== Proof.V01.Carry.lean ====
/- What each stage leaves alone, and the small reads the stages are joined by. -/
module

public import proofs.«01_k».proof.Proof.V01.RefRun
public import proofs.«01_k».proof.Proof.V01.KerRun
public import proofs.«01_k».proof.Proof.V01.ScoreAgree
public import Idealize.ShloMosaic.Lib.StableHlo.RunRead

@[expose] public section

set_option maxRecDepth 16384

noncomputable section

namespace Cert.V01

open ReferenceIdeal.Value
open Idealize.ShloMosaic Idealize.ShloMosaic.StableHlo Idealize.SL.Sem

/-- What the kernel's candidate stage leaves alone. -/
theorem kPick_keeps (V : KV) :
    after kPick V (Proc.devRef .tc KernelIdeal.main_arg4) = V (Proc.devRef .tc KernelIdeal.main_arg4) := by
  after_reads_simp

/-- What the kernel's coordinate stage leaves alone. -/
theorem kCoord_keeps (V : KV) :
    after kCoord V (Proc.devRef .tc KernelIdeal.main_values) = V (Proc.devRef .tc KernelIdeal.main_values)
      ∧ after kCoord V (Proc.devRef .tc KernelIdeal.main_v9) = V (Proc.devRef .tc KernelIdeal.main_v9)
      ∧ after kCoord V (Proc.devRef .tc KernelIdeal.main_v11) = V (Proc.devRef .tc KernelIdeal.main_v11) := by
  refine ⟨?_, ?_, ?_⟩ <;> after_reads_simp

/-- What the kernel's box stage leaves alone. -/
theorem kBoxes_keeps (V : KV) :
    after kBoxes V (Proc.devRef .tc KernelIdeal.main_values) = V (Proc.devRef .tc KernelIdeal.main_values)
      ∧ after kBoxes V (Proc.devRef .tc KernelIdeal.main_v9) = V (Proc.devRef .tc KernelIdeal.main_v9)
      ∧ after kBoxes V (Proc.devRef .tc KernelIdeal.main_v11) = V (Proc.devRef .tc KernelIdeal.main_v11) := by
  refine ⟨?_, ?_, ?_⟩ <;> after_reads_simp

/-- What the kernel's score stage leaves alone. -/
theorem kScore_keeps (V : KV) :
    after kScore V (Proc.devRef .tc KernelIdeal.main_v69) = V (Proc.devRef .tc KernelIdeal.main_v69)
      ∧ after kScore V (Proc.devRef .tc KernelIdeal.main_v9) = V (Proc.devRef .tc KernelIdeal.main_v9)
      ∧ after kScore V (Proc.devRef .tc KernelIdeal.main_v11) = V (Proc.devRef .tc KernelIdeal.main_v11) := by
  refine ⟨?_, ?_, ?_⟩ <;> after_reads_simp

/-- What the kernel's shift stage leaves alone. -/
theorem kShift_keeps (V : KV) :
    after kShift V (Proc.devRef .tc KernelIdeal.main_v72) = V (Proc.devRef .tc KernelIdeal.main_v72)
      ∧ after kShift V (Proc.devRef .tc KernelIdeal.main_v69) = V (Proc.devRef .tc KernelIdeal.main_v69)
      ∧ after kShift V (Proc.devRef .tc KernelIdeal.main_v9) = V (Proc.devRef .tc KernelIdeal.main_v9)
      ∧ after kShift V (Proc.devRef .tc KernelIdeal.main_v11) = V (Proc.devRef .tc KernelIdeal.main_v11) := by
  refine ⟨?_, ?_, ?_, ?_⟩ <;> after_reads_simp

/-- What the kernel's padding stage leaves alone. -/
theorem kPad_keeps (V : KV) :
    after kPad V (Proc.devRef .tc KernelIdeal.main_v72) = V (Proc.devRef .tc KernelIdeal.main_v72)
      ∧ after kPad V (Proc.devRef .tc KernelIdeal.main_v69) = V (Proc.devRef .tc KernelIdeal.main_v69)
      ∧ after kPad V (Proc.devRef .tc KernelIdeal.main_v9) = V (Proc.devRef .tc KernelIdeal.main_v9) := by
  refine ⟨?_, ?_, ?_⟩ <;> after_reads_simp

/-- What the kernel's flag stage leaves alone. -/
theorem kKeep_keeps (V : KV) :
    after kKeep V (Proc.devRef .tc KernelIdeal.main_v72) = V (Proc.devRef .tc KernelIdeal.main_v72)
      ∧ after kKeep V (Proc.devRef .tc KernelIdeal.main_v69) = V (Proc.devRef .tc KernelIdeal.main_v69)
      ∧ after kKeep V (Proc.devRef .tc KernelIdeal.main_v9) = V (Proc.devRef .tc KernelIdeal.main_v9) := by
  refine ⟨?_, ?_, ?_⟩ <;> after_reads_simp

/-- What the reference's flattening stage leaves alone. -/
theorem rFlat_keeps (V : RV) :
    after rFlat V (Proc.devRef .tc ReferenceIdeal.main_arg0) = V (Proc.devRef .tc ReferenceIdeal.main_arg0)
      ∧ after rFlat V (Proc.devRef .tc ReferenceIdeal.main_arg4) = V (Proc.devRef .tc ReferenceIdeal.main_arg4) := by
  refine ⟨?_, ?_⟩ <;> after_reads_simp

/-- What the reference's candidate stage leaves alone. -/
theorem rPick_keeps (V : RV) :
    after rPick V (Proc.devRef .tc ReferenceIdeal.main_v14) = V (Proc.devRef .tc ReferenceIdeal.main_v14)
      ∧ after rPick V (Proc.devRef .tc ReferenceIdeal.main_arg4) = V (Proc.devRef .tc ReferenceIdeal.main_arg4) := by
  refine ⟨?_, ?_⟩ <;> after_reads_simp

/-- What the reference's coordinate stage leaves alone. -/
theorem rCoord_keeps (V : RV) :
    after rCoord V (Proc.devRef .tc ReferenceIdeal.main_values) = V (Proc.devRef .tc ReferenceIdeal.main_values)
      ∧ after rCoord V (Proc.devRef .tc ReferenceIdeal.main_v33) = V (Proc.devRef .tc ReferenceIdeal.main_v33) := by
  refine ⟨?_, ?_⟩ <;> after_reads_simp

/-- What the reference's box stage leaves alone. -/
theorem rBoxes_keeps (V : RV) :
    after rBoxes V (Proc.devRef .tc ReferenceIdeal.main_values) = V (Proc.devRef .tc ReferenceIdeal.main_values)
      ∧ after rBoxes V (Proc.devRef .tc ReferenceIdeal.main_v33) = V (Proc.devRef .tc ReferenceIdeal.main_v33) := by
  refine ⟨?_, ?_⟩ <;> after_reads_simp

/-- What the reference's score stage leaves alone. -/
theorem rScore_keeps (V : RV) :
    after rScore V (Proc.devRef .tc ReferenceIdeal.main_v89) = V (Proc.devRef .tc ReferenceIdeal.main_v89)
      ∧ after rScore V (Proc.devRef .tc ReferenceIdeal.main_v33) = V (Proc.devRef .tc ReferenceIdeal.main_v33)
      ∧ after rScore V (Proc.devRef .tc ReferenceIdeal.main_v101) = V (Proc.devRef .tc ReferenceIdeal.main_v101) := by
  refine ⟨?_, ?_, ?_⟩ <;> after_reads_simp

/-- What the reference's shift stage leaves alone. -/
theorem rShift_keeps (V : RV) :
    after rShift V (Proc.devRef .tc ReferenceIdeal.main_v104) = V (Proc.devRef .tc ReferenceIdeal.main_v104)
      ∧ after rShift V (Proc.devRef .tc ReferenceIdeal.main_v89) = V (Proc.devRef .tc ReferenceIdeal.main_v89)
      ∧ after rShift V (Proc.devRef .tc ReferenceIdeal.main_v33) = V (Proc.devRef .tc ReferenceIdeal.main_v33)
      ∧ after rShift V (Proc.devRef .tc ReferenceIdeal.main_v101) = V (Proc.devRef .tc ReferenceIdeal.main_v101) := by
  refine ⟨?_, ?_, ?_, ?_⟩ <;> after_reads_simp

/-- What the reference's order stage leaves alone. -/
theorem rOrder_keeps (V : RV) :
    after rOrder V (Proc.devRef .tc ReferenceIdeal.main_v112) = V (Proc.devRef .tc ReferenceIdeal.main_v112)
      ∧ after rOrder V (Proc.devRef .tc ReferenceIdeal.main_v101) = V (Proc.devRef .tc ReferenceIdeal.main_v101)
      ∧ after rOrder V (Proc.devRef .tc ReferenceIdeal.main_v104) = V (Proc.devRef .tc ReferenceIdeal.main_v104)
      ∧ after rOrder V (Proc.devRef .tc ReferenceIdeal.main_v89) = V (Proc.devRef .tc ReferenceIdeal.main_v89)
      ∧ after rOrder V (Proc.devRef .tc ReferenceIdeal.main_v33) = V (Proc.devRef .tc ReferenceIdeal.main_v33) := by
  refine ⟨?_, ?_, ?_, ?_, ?_⟩ <;> after_reads_simp

/-- What the reference's gather stage leaves alone. -/
theorem rGather_keeps (V : RV) :
    after rGather V (Proc.devRef .tc ReferenceIdeal.main_v114) = V (Proc.devRef .tc ReferenceIdeal.main_v114)
      ∧ after rGather V (Proc.devRef .tc ReferenceIdeal.main_v104) = V (Proc.devRef .tc ReferenceIdeal.main_v104)
      ∧ after rGather V (Proc.devRef .tc ReferenceIdeal.main_v89) = V (Proc.devRef .tc ReferenceIdeal.main_v89)
      ∧ after rGather V (Proc.devRef .tc ReferenceIdeal.main_v33) = V (Proc.devRef .tc ReferenceIdeal.main_v33) := by
  refine ⟨?_, ?_, ?_, ?_⟩ <;> after_reads_simp

/-- What the reference's overlap stage leaves alone. -/
theorem rIou_keeps (V : RV) :
    after rIou V (Proc.devRef .tc ReferenceIdeal.main_v114) = V (Proc.devRef .tc ReferenceIdeal.main_v114)
      ∧ after rIou V (Proc.devRef .tc ReferenceIdeal.main_v104) = V (Proc.devRef .tc ReferenceIdeal.main_v104)
      ∧ after rIou V (Proc.devRef .tc ReferenceIdeal.main_v89) = V (Proc.devRef .tc ReferenceIdeal.main_v89)
      ∧ after rIou V (Proc.devRef .tc ReferenceIdeal.main_v33) = V (Proc.devRef .tc ReferenceIdeal.main_v33) := by
  refine ⟨?_, ?_, ?_, ?_⟩ <;> after_reads_simp

/-- What the reference's return stage leaves alone. -/
theorem rUnsort_keeps (V : RV) :
    after rUnsort V (Proc.devRef .tc ReferenceIdeal.main_v104) = V (Proc.devRef .tc ReferenceIdeal.main_v104)
      ∧ after rUnsort V (Proc.devRef .tc ReferenceIdeal.main_v89) = V (Proc.devRef .tc ReferenceIdeal.main_v89)
      ∧ after rUnsort V (Proc.devRef .tc ReferenceIdeal.main_v33) = V (Proc.devRef .tc ReferenceIdeal.main_v33) := by
  refine ⟨?_, ?_, ?_⟩ <;> after_reads_simp

/-- What the loop leaves alone. -/
theorem loop_leaves (m : (ℓ : Loc ReferenceIdeal.nD ReferenceIdeal.τ ReferenceIdeal.sig) → Buf (Elt Ideal) ℓ) (c : Dev ReferenceIdeal.nD) :
    rv10 m c (Proc.devRef .tc ReferenceIdeal.main_v114) = rv9 m c (Proc.devRef .tc ReferenceIdeal.main_v114)
      ∧ rv10 m c (Proc.devRef .tc ReferenceIdeal.main_v104) = rv9 m c (Proc.devRef .tc ReferenceIdeal.main_v104)
      ∧ rv10 m c (Proc.devRef .tc ReferenceIdeal.main_v89) = rv9 m c (Proc.devRef .tc ReferenceIdeal.main_v89)
      ∧ rv10 m c (Proc.devRef .tc ReferenceIdeal.main_v33) = rv9 m c (Proc.devRef .tc ReferenceIdeal.main_v33) := by
  refine ⟨loop_keeps m c (fun V => ?_) fun V => ?_, loop_keeps m c (fun V => ?_) fun V => ?_, loop_keeps m c (fun V => ?_) fun V => ?_, loop_keeps m c (fun V => ?_) fun V => ?_⟩
  all_goals try simp only [afterL_cons, afterL_nil]
  all_goals after_reads_simp

/-- What the suppression region leaves alone. -/
theorem region_leaves (m : (ℓ : Loc KernelIdeal.nD KernelIdeal.τ KernelIdeal.sig) → Buf (Elt Ideal) ℓ) (ρ : Dev KernelIdeal.nD → PrngReg) (c : Dev KernelIdeal.nD) :
    kv8 m ρ c (Proc.devRef .tc KernelIdeal.main_v72) = kv7 m ρ c (Proc.devRef .tc KernelIdeal.main_v72)
      ∧ kv8 m ρ c (Proc.devRef .tc KernelIdeal.main_v69) = kv7 m ρ c (Proc.devRef .tc KernelIdeal.main_v69)
      ∧ kv8 m ρ c (Proc.devRef .tc KernelIdeal.main_v9) = kv7 m ρ c (Proc.devRef .tc KernelIdeal.main_v9) := by
  rw [← W25_eq]
  exact ⟨KernelIdeal.Gen.W26_of m ρ c _ (by decide), KernelIdeal.Gen.W26_of m ρ c _ (by decide), KernelIdeal.Gen.W26_of m ρ c _ (by decide)⟩

/-- The two programs mask a dropped score with the same number. -/
theorem mask_agree (VK : KV) (VR : RV) :
    after kKeep VK (Proc.devRef .tc KernelIdeal.main_cst_20) = after rUnsort VR (Proc.devRef .tc ReferenceIdeal.main_cst_38) := by
  after_reads_simp

/-- The two programs scale the regression alike. -/
theorem scaled_agree (VK : KV) (VR : RV) (h2 : VK (Proc.devRef .tc KernelIdeal.main_arg2) = VR (Proc.devRef .tc ReferenceIdeal.main_arg2)) :
    after kPick VK (Proc.devRef .tc KernelIdeal.main_v15) = after rFlat VR (Proc.devRef .tc ReferenceIdeal.main_v14) := by
  after_reads_simp
  rw [h2]
  rfl

/-- The operands of the score region. -/
theorem layout_read (V : KV) (h : ReferenceIdeal.S2x128x128x1.ShapeCasts ReferenceIdeal.S2x16384x1) :
    after KernelIdeal.Gen.hostOps0 V (Proc.devRef .tc KernelIdeal.main_v1) = logits (V (Proc.devRef .tc KernelIdeal.main_arg1))
      ∧ after KernelIdeal.Gen.hostOps0 V (Proc.devRef .tc KernelIdeal.main_v3)
        = shapeCast ReferenceIdeal.S2x16384x1 (transpose ReferenceIdeal.S2x128x128x1 [0, 2, 3, 1] (V (Proc.devRef .tc KernelIdeal.main_arg3))
            ReferenceIdeal.Gen.transposes_S2x1x128x128_S2x128x128x1_0_2_3_1) h := by
  refine ⟨?_, ?_⟩ <;> after_reads_simp <;> rfl

end Cert.V01

end
-- ==== Proof.V01.Overlap.lean ====
/- The overlap of two boxes, and the kernel's table of overlaps. -/
module

public import proofs.«01_k».proof.Proof.Gen.KernelIdeal.Frame
public import Idealize.ShloMosaic.PureOps.Ideal
public import Idealize.ShloMosaic.Lib.Pipeline.Value
public import Idealize.ShloMosaic.Lib.ValueLayout
public import Idealize.ShloMosaic.Lib.Tactic

@[expose] public section

set_option maxRecDepth 16384

noncomputable section

namespace Cert.V01

open KernelIdeal Idealize.ShloMosaic.TcCoe
open Idealize.ShloMosaic.ValueIdx
open Idealize.ShloMosaic Idealize.ShloMosaic.StableHlo Idealize.SL.Sem

/-- The length two intervals share: zero where they don't meet. -/
def sharedLength (a b a' b' : EReal) : EReal :=
  max (FloatOps.ofBits (F := Ideal) .f32 0x00000000#32) (min b b' - max a a')

/-- The area of a box given by its left, top, right and bottom. -/
def boxArea (p : Fin 4 → EReal) : EReal := (p 2 - p 0) * (p 3 - p 1)

/-- The area two boxes share. -/
def sharedArea (p q : Fin 4 → EReal) : EReal := sharedLength (p 0) (p 2) (q 0) (q 2) * sharedLength (p 1) (p 3) (q 1) (q 3)

/-- The overlap of two boxes: the shared area over the area of their union. -/
def overlap (p q : Fin 4 → EReal) : EReal :=
  Ideal.div (sharedArea p q) (max (FloatOps.ofBits (F := Ideal) .f32 0x3089705F#32) (boxArea p + boxArea q - sharedArea p q))

/-- A column of the block of boxes, spread over the lanes. -/
theorem column_value (A : S1x1024x4.Idx → EReal) (n : Nat) (hn : n < 4) (h) (hb : S1024x1.Broadcasts S1024x1024) (a b : Fin 1024) :
    broadcastTo S1024x1024 (extractStridedSlice S1024x1 ![0, n] (shapeCast S1024x4 A Gen.shapeCasts_S1x1024x4_S1024x4) h) hb (ix2 a b)
      = A (ix3 (0 : Fin 1) a (⟨n, hn⟩ : Fin 4)) := by
  refine (broadcastTo_apply _ _ _ (ix2 a (0 : Fin 1)) (by intro x; fin_cases x <;> rfl)).trans ?_
  refine (extractStridedSlice_apply _ _ _ _ (ix2 a (⟨n, hn⟩ : Fin 4)) (by intro x; fin_cases x <;> simp [ix2])).trans ?_
  exact shapeCast_apply _ _ _ _ (by rw [Shape.rowMajor_val_three, Shape.rowMajor_val_two]; show (0 * _ + a.val) * _ + n = a.val * _ + n; simp)

/-- A row of the block of transposed boxes, spread over the sublanes. -/
theorem row_value (B : S1x4x1024.Idx → EReal) (n : Nat) (hn : n < 4) (h) (hb : S1x1024.Broadcasts S1024x1024) (a b : Fin 1024) :
    broadcastTo S1024x1024 (extractStridedSlice S1x1024 ![n, 0] (shapeCast S4x1024 B Gen.shapeCasts_S1x4x1024_S4x1024) h) hb (ix2 a b)
      = B (ix3 (0 : Fin 1) (⟨n, hn⟩ : Fin 4) b) := by
  refine (broadcastTo_apply _ _ _ (ix2 (0 : Fin 1) b) (by intro x; fin_cases x <;> rfl)).trans ?_
  refine (extractStridedSlice_apply _ _ _ _ (ix2 (⟨n, hn⟩ : Fin 4) b) (by intro x; fin_cases x <;> simp [ix2])).trans ?_
  exact shapeCast_apply _ _ _ _ (by rw [Shape.rowMajor_val_three, Shape.rowMajor_val_two]; show (0 * _ + n) * _ + b.val = n * _ + b.val; simp)

/-- An entry of the kernel's table is the overlap of two boxes. -/
theorem table_value (A : S1x1024x4.Idx → EReal) (B : S1x4x1024.Idx → EReal) (a b : Fin 1024) :
    Gen.k1_pay4 (F := Ideal) A B (ix2 a b) = overlap (fun n => A (ix3 (0 : Fin 1) a n)) (fun n => B (ix3 (0 : Fin 1) n b)) := by
  have hc : ∀ (n : Nat) (hn : n < 4) (h), A (ix3 (0 : Fin 1) a (⟨n, hn⟩ : Fin 4))
      = broadcastTo S1024x1024 (extractStridedSlice S1024x1 ![0, n] (shapeCast S1024x4 A Gen.shapeCasts_S1x1024x4_S1024x4) h) Gen.broadcasts_S1024x1_S1024x1024 (ix2 a b) :=
    fun n hn h => (column_value A n hn h _ a b).symm
  have hr : ∀ (n : Nat) (hn : n < 4) (h), B (ix3 (0 : Fin 1) (⟨n, hn⟩ : Fin 4) b)
      = broadcastTo S1024x1024 (extractStridedSlice S1x1024 ![n, 0] (shapeCast S4x1024 B Gen.shapeCasts_S1x4x1024_S4x1024) h) Gen.broadcasts_S1x1024_S1024x1024 (ix2 a b) :=
    fun n hn h => (row_value B n hn h _ a b).symm
  have c0 := hc 0 (by decide) Gen.slices_S1024x4_o0_0_S1024x1
  have c1 := hc 1 (by decide) Gen.slices_S1024x4_o0_1_S1024x1
  have c2 := hc 2 (by decide) Gen.slices_S1024x4_o0_2_S1024x1
  have c3 := hc 3 (by decide) Gen.slices_S1024x4_o0_3_S1024x1
  have r0 := hr 0 (by decide) Gen.slices_S4x1024_o0_0_S1x1024
  have r1 := hr 1 (by decide) Gen.slices_S4x1024_o1_0_S1x1024
  have r2 := hr 2 (by decide) Gen.slices_S4x1024_o2_0_S1x1024
  have r3 := hr 3 (by decide) Gen.slices_S4x1024_o3_0_S1x1024
  have e : ∀ (p q : Fin 4 → EReal) (p0 p1 p2 p3 q0 q1 q2 q3 : EReal), p 0 = p0 → p 1 = p1 → p 2 = p2 → p 3 = p3 → q 0 = q0 → q 1 = q1 → q 2 = q2 → q 3 = q3 →
      overlap p q = overlap ![p0, p1, p2, p3] ![q0, q1, q2, q3] := by
    rintro p q _ _ _ _ _ _ _ _ rfl rfl rfl rfl rfl rfl rfl rfl
    rfl
  refine Eq.trans ?_ (e _ _ _ _ _ _ _ _ _ _ c0 c1 c2 c3 r0 r1 r2 r3).symm
  unfold Gen.k1_pay4
  rw [shapeCast_self]
  rfl

end Cert.V01

end
-- ==== Proof.V01.DropStep.lean ====
/- One step of the kernel's suppression loop, at one lane. -/
module

public import Idealize.ShloMosaic.PureOps.Ideal.Laws
public import Idealize.ShloMosaic.Lib.WordArith.Masks
public import proofs.«01_k».proof.Proof.Gen.KernelIdeal.Frame
public import Idealize.ShloMosaic.PureOps.Ideal
public import Idealize.ShloMosaic.Lib.Pipeline.Value
public import Idealize.ShloMosaic.Lib.ValueLayout
public import Idealize.ShloMosaic.Lib.Tactic

@[expose] public section

set_option maxRecDepth 16384

noncomputable section

namespace Cert.V01

open KernelIdeal Idealize.ShloMosaic.TcCoe
open Idealize.ShloMosaic.ValueIdx
open Idealize.ShloMosaic Idealize.ShloMosaic.StableHlo Idealize.SL.Sem

/-- The lane test of the loop's step, at one lane. -/
theorem lane_eq (j k : Nat) (hj : j < 1024) (hk : k < 1024) : IntOp.cmpi .eq (BitVec.ofNat 32 j) (BitVec.ofNat 32 k) = BitVec.ofBool (decide (j = k)) := by
  have : (BitVec.ofNat 32 j = BitVec.ofNat 32 k) ↔ j = k := by
    constructor
    · intro h
      have := congrArg BitVec.toNat h
      rwa [BitVec.toNat_ofNat, BitVec.toNat_ofNat, Nat.mod_eq_of_lt (by omega), Nat.mod_eq_of_lt (by omega)] at this
    · rintro rfl; rfl
  show BitVec.ofBool (BitVec.ofNat 32 j == BitVec.ofNat 32 k) = _
  by_cases h : j = k
  · subst h; simp
  · rw [decide_eq_false h]; rw [beq_eq_false_iff_ne.2 (fun e => h (this.1 e))]

/-- One step of the suppression at one lane: where the step's own box is kept, a later box that overlaps it past the threshold is
    dropped. -/
def dropStep (k : Nat) (own keep row : EReal) (j : Nat) : EReal :=
  Scalar.select (FloatOps.cmpf (F := Ideal) (φ := .f32) .ogt own (FloatOps.ofBits (F := Ideal) .f32 0x00000000#32))
    (Scalar.select (IntOp.andi (FloatOps.cmpf (F := Ideal) (φ := .f32) .ogt row (FloatOps.ofBits (F := Ideal) .f32 0x3F19999A#32))
        (IntOp.cmpi .sgt (BitVec.ofNat 32 j) (BitVec.ofNat 32 k))) (FloatOps.ofBits (F := Ideal) .f32 0x00000000#32) keep) keep

/-- The loop has at most 1000 trips. -/
theorem trips_le : k1_t1_loop.trips ≤ 1000 := Gen.k1_t1_abs.2.1

/-- The trip's number as a word. -/
theorem trip_word (k : Fin k1_t1_loop.trips) : Scf.iv 0#32 1#32 k = BitVec.ofNat 32 k.val := by
  have h := k.isLt
  have := trips_le
  apply BitVec.eq_of_toNat_eq
  rw [WordArith.toNat_iv_zero_one _ (by omega), BitVec.toNat_ofNat, Nat.mod_eq_of_lt (by omega)]

/-- A choice between two vectors, at one index. -/
theorem select_at {ι α : Type} (c : BitVec 1) (u v : ι → α) (j : ι) : Scalar.select c u v j = Scalar.select c (u j) (v j) := by
  unfold Scalar.select
  split <;> rfl

/-- One trip's result at a lane. -/
theorem trip_lane (k : Fin k1_t1_loop.trips) (keep row : S1x1024.Idx → EReal) (j : Fin 1024) (hk : k.val < 1024) :
    Gen.k1_pay2 (F := Ideal) k keep row (ix2 (0 : Fin 1) j)
      = dropStep k.val (keep (ix2 (0 : Fin 1) (⟨k.val, hk⟩ : Fin 1024))) (keep (ix2 (0 : Fin 1) j)) (row (ix2 (0 : Fin 1) j)) j.val := by
  have hl : ∀ j : Fin 1024, iota .tc S1x1024 32 [1] Gen.iota_S1x1024_d1_w32 (ix2 (0 : Fin 1) j) = BitVec.ofNat 32 j.val :=
    fun j => iota_single_apply _ _ _ _ _ _
  have hs : ∀ y : S1.Idx, multiReduction (F := Ideal) (φ := .f32) .add [1, 2] S1 (shapeCast S1x1x1024
        (select (α := EReal) (cmpi .eq (iota .tc S1x1024 32 [1] Gen.iota_S1x1024_d1_w32) (broadcast S1x1024 (Scf.iv 0#32 1#32 k))) keep
          (broadcast S1x1024 (FloatOps.ofBits (F := Ideal) .f32 0x00000000#32))) Gen.shapeCasts_S1x1024_S1x1x1024)
        0x00000000#32 Gen.reduces_S1x1x1024_S1 (.inl rfl) rfl y = keep (ix2 (0 : Fin 1) (⟨k.val, hk⟩ : Fin 1024)) := by
    intro y
    refine (Ideal.multiReduction_add_total _ _ _ (by intro b; fin_cases b; rfl) _ _ _).trans ?_
    have hc : ∀ j : Fin 1024, (shapeCast S1x1x1024
        (select (α := EReal) (cmpi .eq (iota .tc S1x1024 32 [1] Gen.iota_S1x1024_d1_w32) (broadcast S1x1024 (Scf.iv 0#32 1#32 k))) keep
          (broadcast S1x1024 (FloatOps.ofBits (F := Ideal) .f32 0x00000000#32))) Gen.shapeCasts_S1x1024_S1x1x1024) (ix3 (0 : Fin 1) (0 : Fin 1) j)
        = if j.val = k.val then keep (ix2 (0 : Fin 1) j) else 0 := by
      intro j
      refine (shapeCast_apply _ _ _ (ix2 (0 : Fin 1) j) (by rw [Shape.rowMajor_val_three, Shape.rowMajor_val_two]; show 0 * _ + j.val = (0 * _ + 0) * _ + j.val; simp)).trans ?_
      show Scalar.select (IntOp.cmpi .eq (iota .tc S1x1024 32 [1] Gen.iota_S1x1024_d1_w32 (ix2 (0 : Fin 1) j)) (Scf.iv 0#32 1#32 k)) (keep _) (FloatOps.ofBits (F := Ideal) .f32 0x00000000#32) = _
      rw [hl, trip_word, lane_eq _ _ j.isLt hk]
      by_cases h : j.val = k.val
      · rw [if_pos h, decide_eq_true h]; rfl
      · rw [if_neg h, decide_eq_false h]; exact Ideal.ofBits_zero_f32
    rw [Finset.sum_eq_single (ix3 (0 : Fin 1) (0 : Fin 1) (⟨k.val, hk⟩ : Fin 1024))]
    · rw [hc]; exact if_pos rfl
    · intro y _ hy
      have ey : y = ix3 (0 : Fin 1) (0 : Fin 1) (y 2) := by
        funext a
        fin_cases a
        · exact Subsingleton.elim (α := Fin 1) _ _
        · exact Subsingleton.elim (α := Fin 1) _ _
        · rfl
      rw [ey]
      refine (hc (y 2)).trans (if_neg fun e => hy ?_)
      rw [ey]
      exact congrArg (ix3 (0 : Fin 1) (0 : Fin 1)) (Fin.ext e)
    · intro h; exact absurd (Finset.mem_univ _) h
  unfold dropStep
  rw [← hs (Shape.reshapeEquiv Gen.shapeCasts_S1_S1x1x1 (ix3 (0 : Fin 1) (0 : Fin 1) (0 : Fin 1))), ← hl j, ← trip_word k]
  exact select_at _ _ _ _

end Cert.V01

end
-- ==== Proof.V01.NmsRegion.lean ====
/- The second pallas_call: what its result array ends holding, entry by entry. -/
module

public import proofs.«01_k».proof.Proof.V01.Overlap
public import proofs.«01_k».proof.Proof.V01.DropStep
public import Idealize.ShloMosaic.Lib.Pipeline.ValueKit.Tiles
public import proofs.«01_k».proof.Proof.Gen.KernelIdeal.Frame
public import Idealize.ShloMosaic.PureOps.Ideal
public import Idealize.ShloMosaic.Lib.Pipeline.Value
public import Idealize.ShloMosaic.Lib.ValueLayout
public import Idealize.ShloMosaic.Lib.Tactic

@[expose] public section

set_option maxRecDepth 16384

noncomputable section

namespace Cert.V01

open KernelIdeal Idealize.ShloMosaic.TcCoe
open Idealize.ShloMosaic.ValueIdx
open Idealize.ShloMosaic Idealize.ShloMosaic.StableHlo Idealize.SL.Sem

/-- One step at every lane. `O` holds the overlaps. -/
def suppressStep (O : Fin 1024 → Fin 1024 → EReal) (n : ℕ) (flag : Fin 1024 → EReal) : Fin 1024 → EReal :=
  fun j => if h : n < 1024 then dropStep n (flag ⟨n, h⟩) (flag j) (O ⟨n, h⟩ j) j.val else flag j

/-- The suppression: the flags before any step, then step `n` drops the lanes its own box suppresses. -/
@[irreducible] def suppress (O : Fin 1024 → Fin 1024 → EReal) (flag : Fin 1024 → EReal) (n : ℕ) : Fin 1024 → EReal :=
  Nat.rec flag (fun n f => suppressStep O n f) n

/-- Before any step. -/
theorem suppress_zero (O : Fin 1024 → Fin 1024 → EReal) (flag : Fin 1024 → EReal) (j : Fin 1024) : suppress O flag 0 j = flag j := by
  unfold suppress
  rfl

/-- One step, spelled out. -/
theorem suppress_succ (O : Fin 1024 → Fin 1024 → EReal) (flag : Fin 1024 → EReal) (n : ℕ) (h : n < 1024) (j : Fin 1024) :
    suppress O flag (n + 1) j = dropStep n (suppress O flag n ⟨n, h⟩) (suppress O flag n j) (O ⟨n, h⟩ j) j.val := by
  unfold suppress
  exact dif_pos h

/-- Equal overlaps and equal flags give equal flags. -/
theorem suppress_congr {O O' : Fin 1024 → Fin 1024 → EReal} {f f' : Fin 1024 → EReal} (n : ℕ) {j j' : Fin 1024}
    (hO : ∀ a b, O a b = O' a b) (hf : ∀ j, f j = f' j) (hj : j = j') : suppress O f n j = suppress O' f' n j' := by
  obtain rfl : O = O' := funext fun a => funext fun b => hO a b
  obtain rfl : f = f' := funext hf
  rw [hj]

section Point

variable (c : Dev nD) (i : grid1.Coords)
variable (a1 : Memref sig .tc .vmem S1x1024x4 .f32) (h1 : a1.IsWhole) (a2 : Memref sig .tc .vmem S1x4x1024 .f32) (h2 : a2.IsWhole)
variable (a3 : Memref sig .tc .vmem S1x1x1024 .f32) (h3 : a3.IsWhole) (a4 : Memref sig .tc .vmem S1x1x1024 .f32) (h4 : a4.IsWhole)
variable (a5 : Memref sig .tc .vmem S1024x1024 .f32) (h5 : a5.IsWhole)

/-- The scratch after the store of a table reads as that table. -/
theorem stored_value (P : Vec Ideal S1024x1024 .f32) (inb : ∀ a, (![0, 0] : Fin 2 → Nat) a + S1024x1024.size a ≤ S1024x1024.size a) :
    a5.view.read (Elt Ideal) (a5.view.writes (Elt Ideal) a5.view.junk [⟨Rect.unit (s := S1024x1024) ![0, 0] S1024x1024.size inb, P⟩]) = P := by
  have hz : (![0, 0] : Fin 2 → Nat) = fun _ => 0 := funext fun a => by fin_cases a <;> rfl
  rw [View.read_writes_eq_canon _ _ _ (View.cover_of_tiledL [⟨Rect.unit (s := S1024x1024) ![0, 0] S1024x1024.size inb, P⟩] S1024x1024.size (by sl_kernel_rfl))]
  exact (View.canon_unit_zero (S := S1024x1024) hz inb P)

/-- One trip over a stored table: the step at row `k`. -/
theorem trip_value (X : Buf (Elt Ideal) (a5.view.loc (c : Thread nD τ))) (P : S1024x1024.Idx → EReal) (hX : a5.view.read (Elt Ideal) X = P)
    (k : Fin k1_t1_loop.trips) (hk : k.val < 1024) (acc : S1x1024.Idx → EReal) (j : Fin 1024) :
    Gen.tripR_k1_t1 (F := Ideal) Variants.none c none i a1 h1 a2 h2 a3 h3 a4 h4 a5 h5 X k acc (ix2 (0 : Fin 1) j)
      = dropStep k.val (acc (ix2 (0 : Fin 1) (⟨k.val, hk⟩ : Fin 1024))) (acc (ix2 (0 : Fin 1) j)) (P (ix2 (⟨k.val, hk⟩ : Fin 1024) j)) j.val := by
  unfold Gen.tripR_k1_t1 Gen.trip_k1_t1
  dsimp only
  refine (trip_lane k acc _ j hk).trans ?_
  refine congrArg (fun u => dropStep k.val (acc (ix2 (0 : Fin 1) (⟨k.val, hk⟩ : Fin 1024))) (acc (ix2 (0 : Fin 1) j)) u j.val) ?_
  rw [View.readAt_eq_ld, hX]
  refine View.ld_unit_apply_of (Val := Elt Ideal) (e := .f32) (S := S1024x1024) P _ _ _ (ix2 (0 : Fin 1) j) (ix2 (⟨k.val, hk⟩ : Fin 1024) j) ?_
  intro a
  fin_cases a
  · show k.val = (Scf.iv 0#32 1#32 k.val).toNat + 0
    rw [WordArith.toNat_iv_zero_one _ (by omega)]; rfl
  · show j.val = 0 + j.val
    omega

/-- The loop runs 1000 trips. -/
theorem trips_eq : k1_t1_loop.trips = 1000 := by decide

/-- The loop's value before trip `n`: the suppression after `n` steps. -/
theorem loop_value (X : Buf (Elt Ideal) (a5.view.loc (c : Thread nD τ))) (P : S1024x1024.Idx → EReal) (hX : a5.view.read (Elt Ideal) X = P) (init : S1x1024.Idx → EReal) (n : ℕ) (hn : n ≤ 1000) (j : Fin 1024) :
    Gen.st_k1_t1 (F := Ideal) Variants.none c none i a1 h1 a2 h2 a3 h3 a4 h4 a5 h5 X init n (ix2 (0 : Fin 1) j)
      = suppress (fun a b => P (ix2 a b)) (fun j => init (ix2 (0 : Fin 1) j)) n j := by
  induction n generalizing j with
  | zero =>
    rw [suppress_zero]
    rfl
  | succ n ih =>
    have hk : n < k1_t1_loop.trips := by rw [trips_eq]; omega
    have e := Gen.st_k1_t1_succ (F := Ideal) Variants.none c none i a1 h1 a2 h2 a3 h3 a4 h4 a5 h5 X init ⟨n, hk⟩
    refine (congrFun e _).trans ((trip_value c i a1 h1 a2 h2 a3 h3 a4 h4 a5 h5 X P hX ⟨n, hk⟩ (by show n < 1024; omega) _ j).trans ?_)
    rw [suppress_succ _ _ _ (by omega), ← ih (by omega), ← ih (by omega)]

/-- What one grid point's run leaves, as the loop's last value. -/
theorem out_value (x0 : Vec Ideal S1x1024x4 .f32) (x1 : Vec Ideal S1x4x1024 .f32) (x2 : Vec Ideal S1x1x1024 .f32) :
    Gen.out1_A_3 (F := Ideal) c i a1 h1 a2 h2 a3 h3 a4 h4 a5 h5 x0 x1 x2
      = Gen.k1_pay3 (Gen.st_k1_t1 (F := Ideal) Variants.none c none i a1 h1 a2 h2 a3 h3 a4 h4 a5 h5
          (a5.view.writes (Elt Ideal) a5.view.junk [⟨Rect.unit (s := S1024x1024) ![0, 0] S1024x1024.size Gen.inb_S1024x1024_S1024x1024_0_0, Gen.k1_pay4 x0 x1⟩])
          (Gen.k1_pay1 x2) k1_t1_loop.trips) := by
  have hz : (![0, 0, 0] : Fin 3 → Nat) = fun _ => 0 := funext fun a => by fin_cases a <;> rfl
  unfold Gen.out1_A_3
  rw [View.read_writes_eq_canon _ _ _ (Gen.cover1_A_3 c i a1 h1 a2 h2 a3 h3 a4 h4 a5 h5 x0 x1 x2)]
  unfold Gen.kernelRun1_A
  dsimp only
  sl_unfold_words
  rw [View.canon_unit_zero hz]
  simp only [View.readAt_eq_ld, h1.read_unread, h2.read_unread, h3.read_unread, View.ld_unit_zero (S := S1x1024x4) hz, View.ld_unit_zero (S := S1x4x1024) hz, View.ld_unit_zero (S := S1x1x1024) hz]

/-- What one grid point leaves: the flags after 1000 steps over the overlaps of its boxes. -/
theorem point_value (x0 : S1x1024x4.Idx → EReal) (x1 : S1x4x1024.Idx → EReal) (x2 : S1x1x1024.Idx → EReal) (y : S1x1x1024.Idx) :
    Gen.out1_A_3 (F := Ideal) c i a1 h1 a2 h2 a3 h3 a4 h4 a5 h5 x0 x1 x2 y
      = suppress (fun a b => overlap (fun n => x0 (ix3 (0 : Fin 1) a n)) (fun n => x1 (ix3 (0 : Fin 1) n b)))
          (fun j => x2 (ix3 (0 : Fin 1) (0 : Fin 1) j)) 1000 (y 2) := by
  refine (congrFun (out_value c i a1 h1 a2 h2 a3 h3 a4 h4 a5 h5 x0 x1 x2) y).trans ?_
  rw [trips_eq]
  have ey : y = ix3 (0 : Fin 1) (0 : Fin 1) (y 2) := by
    funext a
    fin_cases a
    · exact Subsingleton.elim (α := Fin 1) _ _
    · exact Subsingleton.elim (α := Fin 1) _ _
    · rfl
  unfold Gen.k1_pay3
  refine (shapeCast_apply _ _ y (ix2 (0 : Fin 1) (y 2)) (by
    rw [Shape.rowMajor_val_three, Shape.rowMajor_val_two, ey]; show 0 * _ + (y 2).val = (0 * _ + 0) * _ + (y 2).val; simp)).trans ?_
  refine (loop_value c i a1 h1 a2 h2 a3 h3 a4 h4 a5 h5 _ _ (stored_value a5 _ _) _ 1000 le_rfl (y 2)).trans ?_
  have hO : (fun a b : Fin 1024 => Gen.k1_pay4 (F := Ideal) x0 x1 (ix2 a b)) = fun a b => overlap (fun n => x0 (ix3 (0 : Fin 1) a n)) (fun n => x1 (ix3 (0 : Fin 1) n b)) :=
    funext fun a => funext fun b => table_value x0 x1 a b
  have hf : (fun j : Fin 1024 => Gen.k1_pay1 (F := Ideal) x2 (ix2 (0 : Fin 1) j)) = fun j => x2 (ix3 (0 : Fin 1) (0 : Fin 1) j) := by
    funext j
    exact shapeCast_apply _ _ _ _ (by rw [Shape.rowMajor_val_three, Shape.rowMajor_val_two]; show (0 * _ + 0) * _ + j.val = 0 * _ + j.val; simp)
  rw [hO, hf]

end Point

variable (V : (c : Dev nD) → (b : Ref sig .tc) → Buf (Elt Ideal) ((c.tc : Thread nD τ).loc b))

/-- The flags that come out, from boxes, transposed boxes and the flags that go in. -/
def kept (A : S2x1024x4.Idx → EReal) (B : S2x4x1024.Idx → EReal) (C : S2x1x1024.Idx → EReal) : S2x1x1024.Idx → EReal :=
  fun i => suppress (fun a b => overlap (fun n => A (ix3 (i 0) a n)) (fun n => B (ix3 (i 0) n b))) (fun j => C (ix3 (i 0) (0 : Fin 1) j)) 1000 (i 2)

/-- The block index of the windows: the image. -/
theorem index_image : ∀ t : Fin cfg1.N, cc1_transform_3 (grid1.coords t) = ![t.val, 0, 0] := by decide +kernel

/-- What every point writes back is its block of the flags. -/
theorem kept_flushed (c : Dev nD) (t : Fin cfg1.N) :
    (Gen.dat1 V c).flushed 3 t = ((cfg1.win 3).blk t).view.read (Elt Ideal) (kept (V c main_v81) (V c main_v82) (V c main_v85)) := by
  show (cfg1.win 3).cut (grid1.coords t) ((Gen.dat1 V c).after 3 t) = _
  rw [Gen.after1_3]
  funext y
  unfold Gen.outsAt1
  refine (point_value _ _ _ _ _ _ _ _ _ _ _ _ _ _ _ _).trans ?_
  have h0 : (y 0).val = 0 := by have : (y 0).val < 1 := (y 0).isLt; omega
  have e0 : ∀ a n, (win1_0.rect t).emb (ix3 (0 : Fin 1) a n) = ix3 ((win1_3.rect t).emb y 0) a n := by
    intro a n
    funext x
    apply Fin.ext
    fin_cases x
    · refine (win1_0.rect_emb_val t _ 0).trans ((win1_3.rect_emb_val t y 0).trans ?_).symm
      rw [h0]; rfl
    · exact win1_0.rect_emb_val_of_index_zero t 1 rfl _
    · exact win1_0.rect_emb_val_of_index_zero t 2 rfl _
  have e1 : ∀ n a, (win1_1.rect t).emb (ix3 (0 : Fin 1) n a) = ix3 ((win1_3.rect t).emb y 0) n a := by
    intro n a
    funext x
    apply Fin.ext
    fin_cases x
    · refine (win1_1.rect_emb_val t _ 0).trans ((win1_3.rect_emb_val t y 0).trans ?_).symm
      rw [h0]; rfl
    · exact win1_1.rect_emb_val_of_index_zero t 1 rfl _
    · exact win1_1.rect_emb_val_of_index_zero t 2 rfl _
  have e2 : ∀ a, (win1_2.rect t).emb (ix3 (0 : Fin 1) (0 : Fin 1) a) = ix3 ((win1_3.rect t).emb y 0) (0 : Fin 1) a := by
    intro a
    funext x
    apply Fin.ext
    fin_cases x
    · refine (win1_2.rect_emb_val t _ 0).trans ((win1_3.rect_emb_val t y 0).trans ?_).symm
      rw [h0]; rfl
    · exact win1_2.rect_emb_val_of_index_zero t 1 rfl _
    · exact win1_2.rect_emb_val_of_index_zero t 2 rfl _
  have e3 : (win1_3.rect t).emb y 2 = y 2 := Fin.ext (win1_3.rect_emb_val_of_index_zero t 2 rfl y)
  unfold kept
  refine suppress_congr 1000 (fun a b => ?_) (fun j => ?_) e3.symm
  · refine congr (congrArg overlap (funext fun n => ?_)) (funext fun n => ?_)
    · exact congrArg (V c main_v81) (e0 a n)
    · exact congrArg (V c main_v82) (e1 n b)
  · exact congrArg (V c main_v85) (e2 j)

/-- Every entry of the result lies in its image's block. -/
theorem kept_cover (i : S2x1x1024.Idx) : ∃ t : Fin cfg1.N, (cfg1.win 3).flush t = true ∧ i ∈ ((cfg1.win 3).blk t).view.set := by
  have h0 : (i 0).val < 2 := (i 0).isLt
  have h1 : (i 1).val < 1 := (i 1).isLt
  have h2 : (i 2).val < 1024 := (i 2).isLt
  have hN : cfg1.N = 2 := Gen.N_1
  let t : Fin cfg1.N := ⟨(i 0).val, by omega⟩
  refine ⟨t, Gen.flush1_3 t, ?_⟩
  have ht := index_image t
  show i ∈ ((View.whole main_v86).slice (win1_3.rect t)).set
  rw [View.set_slice_whole, Rect.mem_set_unit]
  intro a
  fin_cases a
  · show cc1_transform_3 (grid1.coords t) 0 * 1 ≤ (i 0).val ∧ (i 0).val < cc1_transform_3 (grid1.coords t) 0 * 1 + 1
    rw [ht]; show (i 0).val * 1 ≤ (i 0).val ∧ (i 0).val < (i 0).val * 1 + 1; omega
  · show cc1_transform_3 (grid1.coords t) 1 * 1 ≤ (i 1).val ∧ (i 1).val < cc1_transform_3 (grid1.coords t) 1 * 1 + 1
    rw [ht]; show 0 * 1 ≤ (i 1).val ∧ (i 1).val < 0 * 1 + 1; omega
  · show cc1_transform_3 (grid1.coords t) 2 * 1024 ≤ (i 2).val ∧ (i 2).val < cc1_transform_3 (grid1.coords t) 2 * 1024 + 1024
    rw [ht]; show 0 * 1024 ≤ (i 2).val ∧ (i 2).val < 0 * 1024 + 1024; omega

/-- The result array ends holding the flags after the suppression. -/
theorem kept_final (c : Dev nD) : (Gen.dat1 V c).arrAt 3 cfg1.N = kept (V c main_v81) (V c main_v82) (V c main_v85) :=
  (Gen.dat1 V c).arrAt_eq_of_cover 3 (kept (V c main_v81) (V c main_v82) (V c main_v85)) (fun t _ => kept_flushed V c t) kept_cover

end Cert.V01

end
-- ==== Proof.V01.RefLoop.lean ====
/- The reference's loop: its step one flag at a time, and the flags it is left with. -/
module

public import proofs.«01_k».proof.Proof.V01.RefRun
public import proofs.«01_k».proof.Proof.V01.Gathers
public import Idealize.ShloMosaic.Lib.DynamicIndex
public import Idealize.ShloMosaic.Lib.Pipeline.Value
public import Idealize.ShloMosaic.Lib.ValueLayout

@[expose] public section

set_option maxRecDepth 16384

noncomputable section

namespace Cert.V01

open ReferenceIdeal ReferenceIdeal.Gen ReferenceIdeal.Value
open Idealize.ShloMosaic.ValueIdx
open Idealize.ShloMosaic Idealize.ShloMosaic.StableHlo Idealize.SL.Sem

/-- One column of the flags, cut out at a computed position inside the axis. -/
theorem slice_flags {α : Type} (K : S2x1000.Idx → α) (w : Fin 2 → Int) (n : Nat) (hn : n < 1000) (h0 : w 0 = 0) (h1 : w 1 = n) (h) (b : Fin 2) :
    Host.dynamicSlice S2x1 K w h (ix2 b (0 : Fin 1)) = K (ix2 b (⟨n, hn⟩ : Fin 1000)) := by
  have hs : S2x1000.Slices ![0, n] S2x1 := ⟨rfl, fun a => by fin_cases a <;> simp [S2x1000, S2x1] <;> omega⟩
  rw [Host.dynamicSlice_eq_extractStridedSlice S2x1 K w ![0, n] h hs (fun a => by fin_cases a; exacts [h0, h1])]
  exact extractStridedSlice_apply _ _ _ _ _ (by intro a; fin_cases a <;> simp [ix2])

/-- One row of the overlaps, cut out at a computed position inside the axis. -/
theorem slice_overlaps {α : Type} (O : S2x1000x1000.Idx → α) (w : Fin 3 → Int) (n : Nat) (hn : n < 1000) (h0 : w 0 = 0) (h1 : w 1 = n) (h2 : w 2 = 0) (h) (b : Fin 2)
    (j : Fin 1000) : Host.dynamicSlice S2x1x1000 O w h (ix3 b (0 : Fin 1) j) = O (ix3 b (⟨n, hn⟩ : Fin 1000) j) := by
  have hs : S2x1000x1000.Slices ![0, n, 0] S2x1x1000 := ⟨rfl, fun a => by fin_cases a <;> simp [S2x1000x1000, S2x1x1000] <;> omega⟩
  rw [Host.dynamicSlice_eq_extractStridedSlice S2x1x1000 O w ![0, n, 0] h hs (fun a => by fin_cases a; exacts [h0, h1, h2])]
  exact extractStridedSlice_apply _ _ _ _ _ (by intro a; fin_cases a <;> simp [ix3])

/-- One step at one flag: where the step's own box is kept, a flag stays where the overlap is not past the threshold or its place is not later. -/
def flagStep (n : Nat) (own keep : BitVec 1) (o : EReal) (j : Nat) : BitVec 1 :=
  Scalar.select own (IntOp.andi keep (~~~ (IntOp.andi (FloatOps.cmpf (F := Ideal) (φ := .f32) .ogt o (FloatOps.ofBits (F := Ideal) .f32 0x3F19999A#32))
    (IntOp.cmpi .sgt (BitVec.ofNat 32 j) (BitVec.ofNat 32 n))))) keep

/-- The loop's step, one flag at a time. -/
theorem step_read (V : RV) (n : Nat) (hn : n < 1000) (K : S2x1000.Idx → BitVec 1) (O : S2x1000x1000.Idx → EReal)
    (hK : V (Proc.devRef .tc main_v159_4) = K) (hO : V (Proc.devRef .tc main_v159_0) = O)
    (hi : V (Proc.devRef .tc main_v159_3) = (fun _ => BitVec.ofNat 32 n)) (hl : V (Proc.devRef .tc main_v159_1) = iotaInDim S1000 32 0) (b : Fin 2) (j : Fin 1000) :
    step_main_v159_4 V (ix2 b j) = flagStep n (K (ix2 b (⟨n, hn⟩ : Fin 1000))) (K (ix2 b j)) (O (ix3 b (⟨n, hn⟩ : Fin 1000) j)) j.val := by
  unfold step_main_v159_4
  rw [hK, hO, hi, hl]
  have hw : ∀ z : S_.Idx, (select (cmpi .slt (fun _ : S_.Idx => BitVec.ofNat 32 n) (constantI S_ 32 0#32)) (addi (id (fun _ : S_.Idx => BitVec.ofNat 32 n)) (constantI S_ 32 1000#32)) (fun _ : S_.Idx => BitVec.ofNat 32 n) z).toInt = n := by
    intro z
    rw [select_slt_zero_of_nonneg _ _ _ _ (by rw [toInt_small (by omega)]; omega), toInt_small (by omega)]
  unfold flagStep
  show Scalar.select (broadcastInDim (s := S2x1) S2x1000 ![0, 1] bcast_S2x1_S2x1000_0_1 _ (ix2 b j)) (IntOp.andi (K (ix2 b j)) (~~~ (IntOp.andi (FloatOps.cmpf (F := Ideal) (φ := .f32) .ogt (shapeCast (s := S2x1x1000) S2x1000 _ shapeCasts_S2x1x1000_S2x1000 (ix2 b j)) (FloatOps.ofBits (F := Ideal) .f32 0x3F19999A#32))
    (broadcastInDim (s := S1x1000) S2x1000 ![0, 1] bcast_S1x1000_S2x1000_0_1 _ (ix2 b j))))) (K (ix2 b j)) = _
  refine congr (congr (congrArg Scalar.select ?_) (congrArg (IntOp.andi (K (ix2 b j))) (congrArg (fun u => ~~~ u) (congr (congrArg IntOp.andi (congrArg (fun u => FloatOps.cmpf (F := Ideal) (φ := .f32) .ogt u (FloatOps.ofBits (F := Ideal) .f32 0x3F19999A#32)) ?_)) ?_)))) rfl
  · refine (broadcastInDim_apply _ _ _ _ (ix2 b (0 : Fin 1)) (by intro a; fin_cases a <;> rfl)).trans ?_
    exact slice_flags K _ n hn (by rfl) (hw _) _ b
  · refine (shapeCast_apply _ _ _ (ix3 b (0 : Fin 1) j) (by rw [Shape.rowMajor_val_three, Shape.rowMajor_val_two]; show (b.val * 1 + 0) * 1000 + j.val = b.val * 1000 + j.val; simp)).trans ?_
    exact slice_overlaps O _ n hn (by rfl) (hw _) (by rfl) _ b j
  · refine (broadcastInDim_apply _ _ _ _ (ix2 (0 : Fin 1) j) (by intro a; fin_cases a <;> rfl)).trans ?_
    refine (broadcastInDim_apply _ _ _ _ (ix1 j) (by intro a; fin_cases a <;> rfl)).trans ?_
    rfl

variable (m : (ℓ : Loc ReferenceIdeal.nD ReferenceIdeal.τ ReferenceIdeal.sig) → Buf (Elt Ideal) ℓ) (c : Dev ReferenceIdeal.nD)

/-- The loop's buffers before trip `n`: the overlaps and the places as they were, the trip's number, the flags `K n` a recursion gives. -/
theorem loop_flags (O : S2x1000x1000.Idx → EReal) (K : ℕ → S2x1000.Idx → BitVec 1)
    (hO : rv9 m c (Proc.devRef .tc main_v159_0) = O) (hl : rv9 m c (Proc.devRef .tc main_v159_1) = iotaInDim S1000 32 0)
    (hi : rv9 m c (Proc.devRef .tc main_v159_3) = constantI S_ 32 0#32) (h0 : rv9 m c (Proc.devRef .tc main_v159_4) = K 0)
    (hs : ∀ n (hn : n < 1000) b j, K (n + 1) (ix2 b j) = flagStep n (K n (ix2 b (⟨n, hn⟩ : Fin 1000))) (K n (ix2 b j)) (O (ix3 b (⟨n, hn⟩ : Fin 1000) j)) j.val)
    (n : ℕ) (hn : n ≤ 1000) :
    atK m n c (Proc.devRef .tc main_v159_0) = O ∧ atK m n c (Proc.devRef .tc main_v159_1) = iotaInDim S1000 32 0
      ∧ atK m n c (Proc.devRef .tc main_v159_3) = (fun _ => BitVec.ofNat 32 n) ∧ atK m n c (Proc.devRef .tc main_v159_4) = K n := by
  induction n with
  | zero =>
    rw [← entry_eq] at hO hl hi h0
    exact ⟨hO, hl, hi, h0⟩
  | succ n ih =>
    obtain ⟨i0, i1, i3, i4⟩ := ih (by omega)
    have ha : Agree (atK m (n + 1) c) (STEP (atK m n c)) := trip_agree (atK m n c)
    refine ⟨?_, ?_, ?_, ?_⟩
    · rw [ha main_v159_0 (by decide), STEP_main_v159_0, i0]
    · rw [ha main_v159_1 (by decide), STEP_main_v159_1, i1]
    · rw [ha main_v159_3 (by decide), STEP_main_v159_3]
      unfold step_main_v159_3
      rw [i3]
      funext z
      exact (BitVec.ofNat_add n 1).symm
    · rw [ha main_v159_4 (by decide), STEP_main_v159_4]
      funext y
      rw [show y = ix2 (y 0) (y 1) from ?_]
      · exact (step_read _ n (by omega) _ _ i4 i0 i3 i1 _ _).trans (hs n (by omega) _ _).symm
      · funext a; fin_cases a <;> rfl

/-- The flags the loop is left with. -/
theorem left_flags (O : S2x1000x1000.Idx → EReal) (K : ℕ → S2x1000.Idx → BitVec 1)
    (hO : rv9 m c (Proc.devRef .tc main_v159_0) = O) (hl : rv9 m c (Proc.devRef .tc main_v159_1) = iotaInDim S1000 32 0)
    (hi : rv9 m c (Proc.devRef .tc main_v159_3) = constantI S_ 32 0#32) (h0 : rv9 m c (Proc.devRef .tc main_v159_4) = K 0)
    (hs : ∀ n (hn : n < 1000) b j, K (n + 1) (ix2 b j) = flagStep n (K n (ix2 b (⟨n, hn⟩ : Fin 1000))) (K n (ix2 b j)) (O (ix3 b (⟨n, hn⟩ : Fin 1000) j)) j.val) :
    rv10 m c (Proc.devRef .tc main_v159_4) = K 1000 := by
  unfold rv10
  rw [cond_keeps _ main_v159_4 (by decide)]
  exact (loop_flags m c O K hO hl hi h0 hs 1000 le_rfl).2.2.2

end Cert.V01

end
-- ==== Proof.V01.Operands.lean ====
/- The suppression region's operands and the flags read off its result. -/
module

public import proofs.«01_k».proof.Proof.V01.Stages
public import Idealize.ShloMosaic.Lib.StableHlo.RunRead
public import Idealize.ShloMosaic.Lib.KernelVsHost
public import Idealize.ShloMosaic.Lib.Pipeline.Value
public import Idealize.ShloMosaic.Lib.ValueLayout

@[expose] public section

set_option maxRecDepth 16384

noncomputable section

namespace Cert.V01

open KernelIdeal
open Idealize.ShloMosaic.ValueIdx
open Idealize.ShloMosaic Idealize.ShloMosaic.StableHlo Idealize.SL.Sem

/-- A candidate's lane. -/
def lane (j : Fin 1000) : Fin 1024 := Fin.castLE (by decide) j

/-- The boxes, padded along the candidate axis. -/
def padBoxes (z : S_.Idx → EReal) (S : S2x1000x4.Idx → EReal) : S2x1024x4.Idx → EReal :=
  pad S2x1024x4 ![0, 0, 0] ![0, 24, 0] ![0, 0, 0] S z Gen.pads_S2x1000x4_S2x1024x4_000_0240_000 Gen.h_S_

/-- The flags as numbers, padded along the candidate axis. -/
def padFlags (z : S_.Idx → EReal) (K : S2x1000.Idx → BitVec 1) : S2x1024.Idx → EReal :=
  pad S2x1024 ![0, 0] ![0, 24] ![0, 0] (uitofp (F := Ideal) .f32 K) z Gen.pads_S2x1000_S2x1024_000_0240 Gen.h_S_

/-- The three operands of the suppression region. -/
theorem operands_read (V : KV) (S : S2x1000x4.Idx → EReal) (K : S2x1000.Idx → BitVec 1) (hS : V (Proc.devRef .tc main_v80) = S) (hK : V (Proc.devRef .tc main_v11) = K) :
    ∃ z z' : S_.Idx → EReal, after kPad V (Proc.devRef .tc main_v81) = padBoxes z S
      ∧ after kPad V (Proc.devRef .tc main_v82) = transpose S2x4x1024 [0, 2, 1] (padBoxes z S) Gen.transposes_S2x1024x4_S2x4x1024_0_2_1
      ∧ after kPad V (Proc.devRef .tc main_v85) = broadcastInDim S2x1x1024 ![0, 2] Gen.bcast_S2x1024_S2x1x1024_0_2 (padFlags z' K) := by
  refine ⟨sitofp (F := Ideal) .f32 (V (Proc.devRef .tc main_c_17)), sitofp (F := Ideal) .f32 (constantI S_ 32 0#32), ?_, ?_, ?_⟩
  all_goals after_reads_simp
  all_goals try rw [hS]
  all_goals try rw [hK]
  all_goals rfl

/-- Inside the padding the boxes are as they were. -/
theorem padBoxes_lane (z : S_.Idx → EReal) (S : S2x1000x4.Idx → EReal) (b : Fin 2) (j : Fin 1000) (n : Fin 4) : padBoxes z S (ix3 b (lane j) n) = S (ix3 b j n) :=
  pad_apply_of_inside _ _ _ _ _ _ _ _ (ix3 b j n) (by intro a; fin_cases a <;> simp [ix3, lane])

/-- Inside the padding a flag is one or zero. -/
theorem padFlags_lane (z : S_.Idx → EReal) (K : S2x1000.Idx → BitVec 1) (b : Fin 2) (j : Fin 1000) :
    padFlags z K (ix2 b (lane j)) = FloatOps.uitofp (F := Ideal) .f32 (K (ix2 b j)) :=
  pad_apply_of_inside _ _ _ _ _ _ _ _ (ix2 b j) (by intro a; fin_cases a <;> simp [ix2, lane])

/-- The transposed boxes. -/
theorem transposed_lane (A : S2x1024x4.Idx → EReal) (b : Fin 2) (n : Fin 4) (j : Fin 1024) :
    transpose S2x4x1024 [0, 2, 1] A Gen.transposes_S2x1024x4_S2x4x1024_0_2_1 (ix3 b n j) = A (ix3 b j n) :=
  transpose_apply _ _ _ _ _ (by intro a; fin_cases a <;> rfl)

/-- The flags with a unit axis. -/
theorem spread_lane (A : S2x1024.Idx → EReal) (b : Fin 2) (j : Fin 1024) :
    broadcastInDim S2x1x1024 ![0, 2] Gen.bcast_S2x1024_S2x1x1024_0_2 A (ix3 b (0 : Fin 1) j) = A (ix2 b j) :=
  broadcastInDim_apply _ _ _ _ _ (by intro a; fin_cases a <;> rfl)

/-- The flags the host reads off the region's result. -/
theorem kept_read (V : KV) (G : S2x1x1024.Idx → EReal) (hG : V (Proc.devRef .tc main_v86) = G) (b : Fin 2) (j : Fin 1000) :
    after kKeep V (Proc.devRef .tc main_v90) (ix2 b j)
      = FloatOps.cmpf (F := Ideal) (φ := .f32) .ogt (G (ix3 b (0 : Fin 1) (lane j))) (FloatOps.ofBits (F := Ideal) .f32 0x00000000#32) := by
  have h : after kKeep V (Proc.devRef .tc main_v90) = cmpf (F := Ideal) (φ := .f32) .ogt
      (shapeCast S2x1000 (extractStridedSlice S2x1x1000 ![0, 0, 0] G Gen.slices_S2x1x1024_S2x1x1000_0_0_0) Gen.shapeCasts_S2x1x1000_S2x1000)
      (broadcastInDim S2x1000 ![] Gen.bcast_S_S2x1000 (constant (F := Ideal) S_ .f32 0x00000000#32)) := by
    after_reads_simp
    rw [hG]
    rfl
  refine (congrFun h _).trans ?_
  refine congrArg (fun u => FloatOps.cmpf (F := Ideal) (φ := .f32) .ogt u (FloatOps.ofBits (F := Ideal) .f32 0x00000000#32)) ?_
  refine (shapeCast_apply _ _ _ (ix3 b (0 : Fin 1) j) (by rw [Shape.rowMajor_val_three, Shape.rowMajor_val_two]; show (b.val * 1 + 0) * 1000 + j.val = b.val * 1000 + j.val; simp)).trans ?_
  exact extractStridedSlice_apply _ _ _ _ (ix3 b (0 : Fin 1) (lane j)) (by intro a; fin_cases a <;> simp [ix3, lane])

end Cert.V01

end
-- ==== Proof.V01.KeptAgree.lean ====
/- The kernel's suppression on numbers and the reference's on flags agree. -/
module

public import proofs.«01_k».proof.Proof.V01.NmsRegion
public import proofs.«01_k».proof.Proof.V01.RefLoop
public import proofs.«01_k».proof.Proof.V01.Operands

@[expose] public section

set_option maxRecDepth 16384

noncomputable section

namespace Cert.V01

open KernelIdeal
open Idealize.ShloMosaic.ValueIdx
open Idealize.ShloMosaic Idealize.ShloMosaic.StableHlo Idealize.SL.Sem

/-- A flag as a number. -/
def flagOf (q : BitVec 1) : EReal := FloatOps.uitofp (F := Ideal) .f32 q

theorem flagOf_one : flagOf 1#1 = 1 := by
  show (((1#1 : BitVec 1).toNat : ℝ) : EReal) = 1
  norm_num

theorem flagOf_zero : flagOf 0#1 = 0 := by
  show (((0#1 : BitVec 1).toNat : ℝ) : EReal) = 0
  norm_num

/-- A flag is set where its number is positive. -/
theorem flag_test (p : BitVec 1) : FloatOps.cmpf (F := Ideal) (φ := .f32) .ogt (flagOf p) (FloatOps.ofBits (F := Ideal) .f32 0x00000000#32) = p := by
  have hz : FloatOps.ofBits (F := Ideal) .f32 0x00000000#32 = (0 : EReal) := Ideal.ofBits_zero_f32
  show BitVec.ofBool (decide (FloatOps.ofBits (F := Ideal) .f32 0x00000000#32 < flagOf p)) = p
  rw [hz]
  have : p = 0#1 ∨ p = 1#1 := by revert p; decide
  rcases this with rfl | rfl
  · rw [flagOf_zero]; simp
  · rw [flagOf_one]; simp

/-- The kernel's step on numbers is the reference's step on flags. -/
theorem step_flag (n : Nat) (p q : BitVec 1) (o : EReal) (j : Nat) : dropStep n (flagOf p) (flagOf q) o j = flagOf (flagStep n p q o j) := by
  have hz : FloatOps.ofBits (F := Ideal) .f32 0x00000000#32 = (0 : EReal) := Ideal.ofBits_zero_f32
  unfold dropStep flagStep
  rw [flag_test, hz]
  generalize IntOp.andi (FloatOps.cmpf (F := Ideal) (φ := .f32) .ogt o (FloatOps.ofBits (F := Ideal) .f32 0x3F19999A#32))
    (IntOp.cmpi .sgt (BitVec.ofNat 32 j) (BitVec.ofNat 32 n)) = d
  have two : ∀ x : BitVec 1, x = 0#1 ∨ x = 1#1 := by decide
  rcases two p with rfl | rfl
  · rfl
  · rcases two d with rfl | rfl
    · rcases two q with rfl | rfl <;> rfl
    · rcases two q with rfl | rfl
      · exact flagOf_zero.symm
      · exact flagOf_zero.symm

/-- The reference's flags, step by step. -/
@[irreducible] def refFlags (O : ReferenceIdeal.S2x1000x1000.Idx → EReal) (K : S2x1000.Idx → BitVec 1) (n : ℕ) : S2x1000.Idx → BitVec 1 :=
  Nat.rec K (fun n K i => if h : n < 1000 then flagStep n (K (ix2 (i 0) (⟨n, h⟩ : Fin 1000))) (K i) (O (ix3 (i 0) (⟨n, h⟩ : Fin 1000) (i 1))) (i 1).val else K i) n

/-- Before any step. -/
theorem refFlags_zero (O : ReferenceIdeal.S2x1000x1000.Idx → EReal) (K : S2x1000.Idx → BitVec 1) : refFlags O K 0 = K := by
  unfold refFlags
  rfl

/-- One step, spelled out. -/
theorem refFlags_succ (O : ReferenceIdeal.S2x1000x1000.Idx → EReal) (K : S2x1000.Idx → BitVec 1) (n : ℕ) (h : n < 1000) (b : Fin 2) (j : Fin 1000) :
    refFlags O K (n + 1) (ix2 b j) = flagStep n (refFlags O K n (ix2 b (⟨n, h⟩ : Fin 1000))) (refFlags O K n (ix2 b j)) (O (ix3 b (⟨n, h⟩ : Fin 1000) j)) j.val := by
  unfold refFlags
  exact dif_pos h

/-- On the candidates' lanes the kernel's numbers are the reference's flags, step by step. -/
theorem suppress_agree (O : ReferenceIdeal.S2x1000x1000.Idx → EReal) (K : S2x1000.Idx → BitVec 1) (b : Fin 2) (O' : Fin 1024 → Fin 1024 → EReal) (f : Fin 1024 → EReal)
    (hO : ∀ i j, O' (lane i) (lane j) = O (ix3 b i j)) (hf : ∀ j, f (lane j) = flagOf (K (ix2 b j))) (n : ℕ) (hn : n ≤ 1000) (j : Fin 1000) :
    suppress O' f n (lane j) = flagOf (refFlags O K n (ix2 b j)) := by
  induction n generalizing j with
  | zero => rw [suppress_zero, refFlags_zero, hf]
  | succ n ih =>
    have e : (⟨n, by omega⟩ : Fin 1024) = lane ⟨n, by omega⟩ := rfl
    rw [suppress_succ _ _ _ (by omega), refFlags_succ _ _ _ (by omega), e, ih (by omega), ih (by omega), hO, ← step_flag]
    rfl

/-- The flags the kernel reads off its region's result are the flags the reference's steps leave. -/
theorem kept_agree (S : S2x1000x4.Idx → EReal) (K : S2x1000.Idx → BitVec 1) (O : ReferenceIdeal.S2x1000x1000.Idx → EReal)
    (hO : ∀ b i j, O (ix3 b i j) = overlap (fun n => S (ix3 b i n)) (fun n => S (ix3 b j n))) (z z' : S_.Idx → EReal) (b : Fin 2) (j : Fin 1000) :
    FloatOps.cmpf (F := Ideal) (φ := .f32) .ogt
        (kept (padBoxes z S) (transpose S2x4x1024 [0, 2, 1] (padBoxes z S) Gen.transposes_S2x1024x4_S2x4x1024_0_2_1)
          (broadcastInDim S2x1x1024 ![0, 2] Gen.bcast_S2x1024_S2x1x1024_0_2 (padFlags z' K)) (ix3 b (0 : Fin 1) (lane j)))
        (FloatOps.ofBits (F := Ideal) .f32 0x00000000#32)
      = refFlags O K 1000 (ix2 b j) := by
  refine Eq.trans ?_ (flag_test _)
  refine congrArg (fun u => FloatOps.cmpf (F := Ideal) (φ := .f32) .ogt u (FloatOps.ofBits (F := Ideal) .f32 0x00000000#32)) ?_
  refine suppress_agree O K b _ _ (fun i k => ?_) (fun k => ?_) 1000 le_rfl j
  · refine Eq.trans ?_ (hO b i k).symm
    refine congr (congrArg overlap (funext fun n => padBoxes_lane z S b i n)) (funext fun n => ?_)
    exact (transposed_lane _ b n (lane k)).trans (padBoxes_lane z S b k n)
  · exact (spread_lane _ b (lane k)).trans (padFlags_lane z' K b k)

end Cert.V01

end
-- ==== Proof.V01.RefOverlap.lean ====
/- The reference's overlaps, one pair of boxes at a time, and what its loop carries in. -/
module

public import proofs.«01_k».proof.Proof.V01.Stages
public import proofs.«01_k».proof.Proof.V01.Overlap
public import Idealize.ShloMosaic.Lib.StableHlo.RunRead
public import Idealize.ShloMosaic.Lib.Pipeline.Value
public import Idealize.ShloMosaic.Lib.ValueLayout

@[expose] public section

set_option maxRecDepth 16384

noncomputable section

namespace Cert.V01

open ReferenceIdeal
open Idealize.ShloMosaic.ValueIdx
open Idealize.ShloMosaic Idealize.ShloMosaic.StableHlo Idealize.SL.Sem

/-- One coordinate of every box. -/
def coord (S : S2x1000x4.Idx → EReal) (n : Nat) (h : S2x1000x4.Slices ![0, 0, n] S2x1000x1) : S2x1000.Idx → EReal :=
  shapeCast S2x1000 (extractStridedSlice S2x1000x1 ![0, 0, n] S h) Gen.shapeCasts_S2x1000x1_S2x1000

/-- The area of every box. -/
def areas (S : S2x1000x4.Idx → EReal) : S2x1000.Idx → EReal :=
  mulf (F := Ideal) (φ := .f32) (subf (F := Ideal) (φ := .f32) (coord S 2 Gen.slices_S2x1000x4_S2x1000x1_0_0_2) (coord S 0 Gen.slices_S2x1000x4_S2x1000x1_0_0_0))
    (subf (F := Ideal) (φ := .f32) (coord S 3 Gen.slices_S2x1000x4_S2x1000x1_0_0_3) (coord S 1 Gen.slices_S2x1000x4_S2x1000x1_0_0_1))

/-- A pair of coordinates of every first box. -/
def firstPair (S : S2x1000x4.Idx → EReal) (n : Nat) (h : S2x1000x4.Slices ![0, 0, n] S2x1000x2) : S2x1000x1000x2.Idx → EReal :=
  broadcastInDim S2x1000x1000x2 ![0, 1, 2, 3] Gen.bcast_S2x1000x1x2_S2x1000x1000x2_0_1_2_3
    (broadcastInDim S2x1000x1x2 ![0, 1, 3] Gen.bcast_S2x1000x2_S2x1000x1x2_0_1_3 (extractStridedSlice S2x1000x2 ![0, 0, n] S h))

/-- A pair of coordinates of every second box. -/
def secondPair (S : S2x1000x4.Idx → EReal) (n : Nat) (h : S2x1000x4.Slices ![0, 0, n] S2x1000x2) : S2x1000x1000x2.Idx → EReal :=
  broadcastInDim S2x1000x1000x2 ![0, 1, 2, 3] Gen.bcast_S2x1x1000x2_S2x1000x1000x2_0_1_2_3
    (broadcastInDim S2x1x1000x2 ![0, 2, 3] Gen.bcast_S2x1000x2_S2x1x1000x2_0_2_3 (extractStridedSlice S2x1000x2 ![0, 0, n] S h))

/-- The two lengths every two boxes share. -/
def lengths (S : S2x1000x4.Idx → EReal) : S2x1000x1000x2.Idx → EReal :=
  maximumf (F := Ideal) (φ := .f32) (broadcastInDim S2x1000x1000x2 ![] Gen.bcast_S_S2x1000x1000x2 (constant (F := Ideal) S_ .f32 0x00000000#32))
    (subf (F := Ideal) (φ := .f32)
      (minimumf (F := Ideal) (φ := .f32) (firstPair S 2 Gen.slices_S2x1000x4_S2x1000x2_0_0_2) (secondPair S 2 Gen.slices_S2x1000x4_S2x1000x2_0_0_2))
      (maximumf (F := Ideal) (φ := .f32) (firstPair S 0 Gen.slices_S2x1000x4_S2x1000x2_0_0_0) (secondPair S 0 Gen.slices_S2x1000x4_S2x1000x2_0_0_0)))

/-- One of the two lengths. -/
def lengthAt (L : S2x1000x1000x2.Idx → EReal) (n : Nat) (h : S2x1000x1000x2.Slices ![0, 0, 0, n] S2x1000x1000x1) : S2x1000x1000.Idx → EReal :=
  shapeCast S2x1000x1000 (extractStridedSlice S2x1000x1000x1 ![0, 0, 0, n] L h) Gen.shapeCasts_S2x1000x1000x1_S2x1000x1000

/-- The area every two boxes share. -/
def sharedAreas (L : S2x1000x1000x2.Idx → EReal) : S2x1000x1000.Idx → EReal :=
  mulf (F := Ideal) (φ := .f32) (lengthAt L 0 Gen.slices_S2x1000x1000x2_S2x1000x1000x1_0_0_0_0) (lengthAt L 1 Gen.slices_S2x1000x1000x2_S2x1000x1000x1_0_0_0_1)

/-- The overlap of every two boxes, from the areas and the shared areas. -/
def ratios (A : S2x1000.Idx → EReal) (I : S2x1000x1000.Idx → EReal) : S2x1000x1000.Idx → EReal :=
  Host.divf (F := Ideal) (φ := .f32) I (maximumf (F := Ideal) (φ := .f32)
    (broadcastInDim S2x1000x1000 ![] Gen.bcast_S_S2x1000x1000 (constant (F := Ideal) S_ .f32 0x3089705F#32))
    (subf (F := Ideal) (φ := .f32) (addf (F := Ideal) (φ := .f32)
      (broadcastInDim S2x1000x1000 ![0, 1, 2] Gen.bcast_S2x1000x1_S2x1000x1000_0_1_2 (broadcastInDim S2x1000x1 ![0, 1] Gen.bcast_S2x1000_S2x1000x1_0_1 A))
      (broadcastInDim S2x1000x1000 ![0, 1, 2] Gen.bcast_S2x1x1000_S2x1000x1000_0_1_2 (broadcastInDim S2x1x1000 ![0, 2] Gen.bcast_S2x1000_S2x1x1000_0_2 A))) I))

/-- What the loop carries in: the overlaps, the places, the trip's number and the flags. -/
theorem carried_read (V : RV) (S : S2x1000x4.Idx → EReal) (hS : V (Proc.devRef .tc main_v116) = S) :
    after rIou V (Proc.devRef .tc main_v159_0) = ratios (areas S) (sharedAreas (lengths S))
      ∧ after rIou V (Proc.devRef .tc main_v159_1) = iotaInDim S1000 32 0
      ∧ after rIou V (Proc.devRef .tc main_v159_3) = constantI S_ 32 0#32
      ∧ after rIou V (Proc.devRef .tc main_v159_4) = V (Proc.devRef .tc main_v117) := by
  refine ⟨?_, ?_, ?_, ?_⟩
  · after_reads_simp
    rw [hS]
    rfl
  all_goals after_reads_simp
  all_goals rfl

/-- A coordinate of a box. -/
theorem coord_at (S : S2x1000x4.Idx → EReal) (n : Nat) (hn : n < 4) (h) (b : Fin 2) (j : Fin 1000) : coord S n h (ix2 b j) = S (ix3 b j (⟨n, hn⟩ : Fin 4)) := by
  refine (shapeCast_apply _ _ _ (ix3 b j (0 : Fin 1)) (by rw [Shape.rowMajor_val_three, Shape.rowMajor_val_two]; show (b.val * 1000 + j.val) * 1 + 0 = b.val * 1000 + j.val; simp)).trans ?_
  exact extractStridedSlice_apply _ _ _ _ _ (by intro a; fin_cases a <;> simp [ix3])

/-- The area of a box. -/
theorem areas_at (S : S2x1000x4.Idx → EReal) (b : Fin 2) (j : Fin 1000) : areas S (ix2 b j) = boxArea fun n => S (ix3 b j n) := by
  show (coord S 2 _ (ix2 b j) - coord S 0 _ (ix2 b j)) * (coord S 3 _ (ix2 b j) - coord S 1 _ (ix2 b j)) = _
  rw [coord_at S 2 (by decide), coord_at S 0 (by decide), coord_at S 3 (by decide), coord_at S 1 (by decide)]
  rfl

/-- A coordinate of a first box. -/
theorem firstPair_at (S : S2x1000x4.Idx → EReal) (n : Nat) (h) (b : Fin 2) (i j : Fin 1000) (k : Fin 2) (hk : n + k.val < 4) :
    firstPair S n h (ix4 b i j k) = S (ix3 b i (⟨n + k.val, hk⟩ : Fin 4)) := by
  refine (broadcastInDim_apply _ _ _ _ (ix4 b i (0 : Fin 1) k) (by intro a; fin_cases a <;> rfl)).trans ?_
  refine (broadcastInDim_apply _ _ _ _ (ix3 b i k) (by intro a; fin_cases a <;> rfl)).trans ?_
  exact extractStridedSlice_apply _ _ _ _ _ (by intro a; fin_cases a <;> simp [ix3])

/-- A coordinate of a second box. -/
theorem secondPair_at (S : S2x1000x4.Idx → EReal) (n : Nat) (h) (b : Fin 2) (i j : Fin 1000) (k : Fin 2) (hk : n + k.val < 4) :
    secondPair S n h (ix4 b i j k) = S (ix3 b j (⟨n + k.val, hk⟩ : Fin 4)) := by
  refine (broadcastInDim_apply _ _ _ _ (ix4 b (0 : Fin 1) j k) (by intro a; fin_cases a <;> rfl)).trans ?_
  refine (broadcastInDim_apply _ _ _ _ (ix3 b j k) (by intro a; fin_cases a <;> rfl)).trans ?_
  exact extractStridedSlice_apply _ _ _ _ _ (by intro a; fin_cases a <;> simp [ix3])

/-- A length two boxes share. -/
theorem lengths_at (S : S2x1000x4.Idx → EReal) (b : Fin 2) (i j : Fin 1000) (k : Fin 2) :
    lengths S (ix4 b i j k) = sharedLength (S (ix3 b i (⟨0 + k.val, by omega⟩ : Fin 4))) (S (ix3 b i (⟨2 + k.val, by omega⟩ : Fin 4)))
      (S (ix3 b j (⟨0 + k.val, by omega⟩ : Fin 4))) (S (ix3 b j (⟨2 + k.val, by omega⟩ : Fin 4))) := by
  show max _ (min (firstPair S 2 _ (ix4 b i j k)) (secondPair S 2 _ (ix4 b i j k)) - max (firstPair S 0 _ (ix4 b i j k)) (secondPair S 0 _ (ix4 b i j k))) = _
  rw [firstPair_at S 2 _ b i j k (by omega), firstPair_at S 0 _ b i j k (by omega), secondPair_at S 2 _ b i j k (by omega), secondPair_at S 0 _ b i j k (by omega)]
  rfl

/-- One of the two lengths, at two boxes. -/
theorem lengthAt_at (L : S2x1000x1000x2.Idx → EReal) (n : Nat) (hn : n < 2) (h) (b : Fin 2) (i j : Fin 1000) :
    lengthAt L n h (ix3 b i j) = L (ix4 b i j (⟨n, hn⟩ : Fin 2)) := by
  refine (shapeCast_apply _ _ _ (ix4 b i j (0 : Fin 1)) (by
    rw [Shape.rowMajor_val_three, Shape.rowMajor_val_four]; show ((b.val * 1000 + i.val) * 1000 + j.val) * 1 + 0 = (b.val * 1000 + i.val) * 1000 + j.val; simp)).trans ?_
  exact extractStridedSlice_apply _ _ _ _ _ (by intro a; fin_cases a <;> simp [ix4])

/-- The area two boxes share. -/
theorem sharedAreas_at (S : S2x1000x4.Idx → EReal) (b : Fin 2) (i j : Fin 1000) :
    sharedAreas (lengths S) (ix3 b i j) = sharedArea (fun n => S (ix3 b i n)) (fun n => S (ix3 b j n)) := by
  show lengthAt _ 0 _ (ix3 b i j) * lengthAt _ 1 _ (ix3 b i j) = _
  rw [lengthAt_at _ 0 (by decide), lengthAt_at _ 1 (by decide), lengths_at, lengths_at]
  rfl

/-- The overlap of two boxes. -/
theorem ratios_at (S : S2x1000x4.Idx → EReal) (b : Fin 2) (i j : Fin 1000) :
    ratios (areas S) (sharedAreas (lengths S)) (ix3 b i j) = overlap (fun n => S (ix3 b i n)) (fun n => S (ix3 b j n)) := by
  have ha : broadcastInDim S2x1000x1000 ![0, 1, 2] Gen.bcast_S2x1000x1_S2x1000x1000_0_1_2 (broadcastInDim S2x1000x1 ![0, 1] Gen.bcast_S2x1000_S2x1000x1_0_1 (areas S)) (ix3 b i j)
      = boxArea fun n => S (ix3 b i n) :=
    ((broadcastInDim_apply _ _ _ _ (ix3 b i (0 : Fin 1)) (by intro a; fin_cases a <;> rfl)).trans
      (broadcastInDim_apply _ _ _ _ (ix2 b i) (by intro a; fin_cases a <;> rfl))).trans (areas_at S b i)
  have hb : broadcastInDim S2x1000x1000 ![0, 1, 2] Gen.bcast_S2x1x1000_S2x1000x1000_0_1_2 (broadcastInDim S2x1x1000 ![0, 2] Gen.bcast_S2x1000_S2x1x1000_0_2 (areas S)) (ix3 b i j)
      = boxArea fun n => S (ix3 b j n) :=
    ((broadcastInDim_apply _ _ _ _ (ix3 b (0 : Fin 1) j) (by intro a; fin_cases a <;> rfl)).trans
      (broadcastInDim_apply _ _ _ _ (ix2 b j) (by intro a; fin_cases a <;> rfl))).trans (areas_at S b j)
  unfold overlap
  rw [← ha, ← hb, ← sharedAreas_at]
  rfl

end Cert.V01

end
-- ==== Proof.V01.RefFlags.lean ====
/- The reference's order is the identity, and the flags it puts back. -/
module

public import proofs.«01_k».proof.Proof.V01.Carry
public import proofs.«01_k».proof.Proof.V01.KeptAgree
public import proofs.«01_k».proof.Proof.V01.RefOverlap
public import proofs.«01_k».proof.Proof.V01.Indices
public import proofs.«01_k».proof.Proof.V01.Scores

@[expose] public section

set_option maxRecDepth 16384

noncomputable section

namespace Cert.V01

open ReferenceIdeal ReferenceIdeal.Gen ReferenceIdeal.Value
open Idealize.ShloMosaic.ValueIdx
open Idealize.ShloMosaic Idealize.ShloMosaic.StableHlo Idealize.SL.Sem

variable (m : (ℓ : Loc ReferenceIdeal.nD ReferenceIdeal.τ ReferenceIdeal.sig) → Buf (Elt Ideal) ℓ) (c : Dev ReferenceIdeal.nD)

/-- With a regression that is not negative every candidate's box is valid: the validity is the score test. -/
theorem valid_eq (A : S2x4x128x128.Idx → EReal) (hA : launchContents m c (Proc.devRef .tc main_arg2) = A) (h0 : ∀ i, 0 ≤ A i) :
    rv4 m c (Proc.devRef .tc main_v101) = rv2 m c (Proc.devRef .tc main_v35) := by
  obtain ⟨G, hG, hG0⟩ := scaled_nonneg (launchContents m c) A hA h0
  exact validity_agree (rv2 m c) G ((rPick_keeps (rv1 m c)).1.trans hG) hG0 (location_range (rv1 m c))

/-- The scores are in descending order already, so the sort leaves every candidate at its place. -/
theorem order_eq (hv : rv4 m c (Proc.devRef .tc main_v101) = rv2 m c (Proc.devRef .tc main_v35)) :
    rv7 m c (Proc.devRef .tc main_v114) = iotaInDim S2x1000 32 1 := by
  obtain ⟨T, hT⟩ : ∃ T : S2x1000.Idx → EReal, rv2 m c (Proc.devRef .tc main_values) = T := ⟨_, rfl⟩
  obtain ⟨S, hS⟩ : ∃ S : S2x1000.Idx → EReal, rv5 m c (Proc.devRef .tc main_v104) = S := ⟨_, rfl⟩
  have hT4 : rv4 m c (Proc.devRef .tc main_values) = T :=
    (rBoxes_keeps (rv3 m c)).1.trans ((rCoord_keeps (rv2 m c)).1.trans hT)
  have hs : ∀ j, S j = scoreOf (T j) := fun j =>
    (congrFun hS j).symm.trans (score_read (rv4 m c) T hT4 (fun i => (congrFun hv i).trans (test_read (rv1 m c) T hT i)) j)
  refine order_agree (rv6 m c) (fun j => -(S j)) (key_read (rv5 m c) S hS) fun b k k' hk => ?_
  rw [hs, hs]
  exact EReal.neg_le_neg_iff.2 (scoreOf_mono (values_desc (rv1 m c) T hT b k k' hk))

/-- The flags the reference puts back: its suppression steps over the overlaps of the shifted boxes, from the score test. -/
theorem left_eq (hv : rv4 m c (Proc.devRef .tc main_v101) = rv2 m c (Proc.devRef .tc main_v35)) (S : S2x1000x4.Idx → EReal)
    (hS : rv6 m c (Proc.devRef .tc main_v112) = S) (K : S2x1000.Idx → BitVec 1) (hK : rv2 m c (Proc.devRef .tc main_v35) = K) :
    rv11 m c (Proc.devRef .tc main_v177) = refFlags (ratios (areas S) (sharedAreas (lengths S))) K 1000 := by
  have ho := order_eq m c hv
  have hg := gather_agree (rv7 m c) ho
  obtain ⟨o112, o101, -, -, -⟩ := rOrder_keeps (rv6 m c)
  have hS8 : rv8 m c (Proc.devRef .tc main_v116) = S := hg.1.trans (o112.trans hS)
  have hK8 : rv8 m c (Proc.devRef .tc main_v117) = K :=
    hg.2.trans (o101.trans ((rShift_keeps (rv5 m c)).2.2.2.trans ((rScore_keeps (rv4 m c)).2.2.trans (hv.trans hK))))
  obtain ⟨c0, c1, c3, c4⟩ := carried_read (rv8 m c) S hS8
  have hl := left_flags m c (ratios (areas S) (sharedAreas (lengths S))) (refFlags (ratios (areas S) (sharedAreas (lengths S))) K) c0 c1 c3
    (c4.trans (hK8.trans (refFlags_zero _ _).symm)) (fun n hn b j => refFlags_succ _ _ n hn b j)
  have ho10 : rv10 m c (Proc.devRef .tc main_v114) = iotaInDim S2x1000 32 1 :=
    (loop_leaves m c).1.trans ((rIou_keeps (rv8 m c)).1.trans ((rGather_keeps (rv7 m c)).1.trans ho))
  exact (back_agree (rv10 m c) ho10).trans hl

end Cert.V01

end
-- ==== Proof.V01.Candidates.lean ====
/- The candidates: from equal masked scores and equal arguments both programs pick the same 1000 candidates, with the same
   labels and score test, gather the same locations, and (from equal scaled regressions) reach the same clipped coordinates. -/
module

public import proofs.«01_k».proof.Proof.V01.Stages

@[expose] public section

set_option maxRecDepth 16384

noncomputable section

namespace Cert.V01

open Idealize.ShloMosaic Idealize.ShloMosaic.StableHlo Idealize.SL.Sem

set_option maxHeartbeats 1000000 in
/-- From equal masked scores and locations: the same top values, labels, score test, location column and gathered locations. -/
theorem pick_agree (VK : KV) (VR : RV)
    (hm : VK (Proc.devRef .tc KernelIdeal.main_v4) = VR (Proc.devRef .tc ReferenceIdeal.main_v28))
    (h0 : VK (Proc.devRef .tc KernelIdeal.main_arg0) = VR (Proc.devRef .tc ReferenceIdeal.main_arg0)) :
    after kPick VK (Proc.devRef .tc KernelIdeal.main_values) = after rPick VR (Proc.devRef .tc ReferenceIdeal.main_values)
      ∧ after kPick VK (Proc.devRef .tc KernelIdeal.main_v9) = after rPick VR (Proc.devRef .tc ReferenceIdeal.main_v33)
      ∧ after kPick VK (Proc.devRef .tc KernelIdeal.main_v11) = after rPick VR (Proc.devRef .tc ReferenceIdeal.main_v35)
      ∧ after kPick VK (Proc.devRef .tc KernelIdeal.main_v23) = after rPick VR (Proc.devRef .tc ReferenceIdeal.main_v43)
      ∧ after kPick VK (Proc.devRef .tc KernelIdeal.main_v22) = after rPick VR (Proc.devRef .tc ReferenceIdeal.main_v42) := by
  refine ⟨?_, ?_, ?_, ?_, ?_⟩
  all_goals after_reads_simp
  all_goals try rw [hm]
  all_goals try rw [h0]
  all_goals rfl

set_option maxHeartbeats 1000000 in
/-- From equal scaled regressions, location column, gathered locations and image sizes: the same four clipped coordinates. -/
theorem coord_agree (VK : KV) (VR : RV)
    (hr : VK (Proc.devRef .tc KernelIdeal.main_v15) = VR (Proc.devRef .tc ReferenceIdeal.main_v14))
    (hi : VK (Proc.devRef .tc KernelIdeal.main_v23) = VR (Proc.devRef .tc ReferenceIdeal.main_v43))
    (hl : VK (Proc.devRef .tc KernelIdeal.main_v22) = VR (Proc.devRef .tc ReferenceIdeal.main_v42))
    (h4 : VK (Proc.devRef .tc KernelIdeal.main_arg4) = VR (Proc.devRef .tc ReferenceIdeal.main_arg4)) :
    after kCoord VK (Proc.devRef .tc KernelIdeal.main_v55) = after rCoord VR (Proc.devRef .tc ReferenceIdeal.main_v75)
      ∧ after kCoord VK (Proc.devRef .tc KernelIdeal.main_v58) = after rCoord VR (Proc.devRef .tc ReferenceIdeal.main_v78)
      ∧ after kCoord VK (Proc.devRef .tc KernelIdeal.main_v61) = after rCoord VR (Proc.devRef .tc ReferenceIdeal.main_v81)
      ∧ after kCoord VK (Proc.devRef .tc KernelIdeal.main_v64) = after rCoord VR (Proc.devRef .tc ReferenceIdeal.main_v84) := by
  refine ⟨?_, ?_, ?_, ?_⟩
  all_goals after_reads_simp
  all_goals try rw [hr]
  all_goals try rw [hi]
  all_goals try rw [hl]
  all_goals try rw [h4]
  all_goals rfl

end Cert.V01

end
-- ==== Proof.V01.Middle.lean ====
/- The stages after the coordinates on which the two programs agree operation for operation: the boxes, the scores, the boxes
   shifted by label, and the tail after the suppression. -/
module

public import proofs.«01_k».proof.Proof.V01.Stages

@[expose] public section

set_option maxRecDepth 16384

noncomputable section

namespace Cert.V01

open Idealize.ShloMosaic Idealize.ShloMosaic.StableHlo Idealize.SL.Sem

/-- The same four coordinates make the same boxes. -/
theorem boxes_agree (VK : KV) (VR : RV)
    (h1 : VK (Proc.devRef .tc KernelIdeal.main_v55) = VR (Proc.devRef .tc ReferenceIdeal.main_v75))
    (h2 : VK (Proc.devRef .tc KernelIdeal.main_v58) = VR (Proc.devRef .tc ReferenceIdeal.main_v78))
    (h3 : VK (Proc.devRef .tc KernelIdeal.main_v61) = VR (Proc.devRef .tc ReferenceIdeal.main_v81))
    (h4 : VK (Proc.devRef .tc KernelIdeal.main_v64) = VR (Proc.devRef .tc ReferenceIdeal.main_v84)) :
    after kBoxes VK (Proc.devRef .tc KernelIdeal.main_v69) = after rBoxes VR (Proc.devRef .tc ReferenceIdeal.main_v89) := by
  show concatenate KernelIdeal.S2x1000x4 2
      [⟨KernelIdeal.S2x1000x1, broadcastInDim KernelIdeal.S2x1000x1 ![0, 1] KernelIdeal.Gen.bcast_S2x1000_S2x1000x1_0_1 (VK (Proc.devRef .tc KernelIdeal.main_v55))⟩,
       ⟨KernelIdeal.S2x1000x1, broadcastInDim KernelIdeal.S2x1000x1 ![0, 1] KernelIdeal.Gen.bcast_S2x1000_S2x1000x1_0_1 (VK (Proc.devRef .tc KernelIdeal.main_v58))⟩,
       ⟨KernelIdeal.S2x1000x1, broadcastInDim KernelIdeal.S2x1000x1 ![0, 1] KernelIdeal.Gen.bcast_S2x1000_S2x1000x1_0_1 (VK (Proc.devRef .tc KernelIdeal.main_v61))⟩,
       ⟨KernelIdeal.S2x1000x1, broadcastInDim KernelIdeal.S2x1000x1 ![0, 1] KernelIdeal.Gen.bcast_S2x1000_S2x1000x1_0_1 (VK (Proc.devRef .tc KernelIdeal.main_v64))⟩]
      KernelIdeal.Gen.concatenates_S2x1000x1_S2x1000x1_S2x1000x1_S2x1000x1_S2x1000x4_d2 = _
  rw [h1, h2, h3, h4]
  rfl

/-- The same validity and top values give the same scores. -/
theorem score_agree (VK : KV) (VR : RV)
    (hc : VK (Proc.devRef .tc KernelIdeal.main_cst_13) = VR (Proc.devRef .tc ReferenceIdeal.main_cst_25))
    (hv : VK (Proc.devRef .tc KernelIdeal.main_v11) = VR (Proc.devRef .tc ReferenceIdeal.main_v101))
    (ht : VK (Proc.devRef .tc KernelIdeal.main_values) = VR (Proc.devRef .tc ReferenceIdeal.main_values)) :
    after kScore VK (Proc.devRef .tc KernelIdeal.main_v72) = after rScore VR (Proc.devRef .tc ReferenceIdeal.main_v104) := by
  after_reads_simp
  rw [hc, hv, ht]

/-- The constant the score stage reads. -/
theorem one_agree (VK : KV) (VR : RV)
 :
    after kBoxes VK (Proc.devRef .tc KernelIdeal.main_cst_13) = after rBoxes VR (Proc.devRef .tc ReferenceIdeal.main_cst_25) := by
  after_reads_simp

/-- The same boxes and labels give the same shifted boxes. -/
theorem shift_agree (VK : KV) (VR : RV)
    (hb : VK (Proc.devRef .tc KernelIdeal.main_v69) = VR (Proc.devRef .tc ReferenceIdeal.main_v89))
    (hl : VK (Proc.devRef .tc KernelIdeal.main_v9) = VR (Proc.devRef .tc ReferenceIdeal.main_v33)) :
    after kShift VK (Proc.devRef .tc KernelIdeal.main_v80) = after rShift VR (Proc.devRef .tc ReferenceIdeal.main_v112) := by
  after_reads_simp
  rw [hb, hl]

end Cert.V01

end
-- ==== Proof.V01.Tail.lean ====
/- The tail: from the same kept flags, scores, boxes and labels both programs produce the same four results. -/
module

public import proofs.«01_k».proof.Proof.V01.Stages

@[expose] public section

set_option maxRecDepth 16384

noncomputable section

namespace Cert.V01

open Idealize.ShloMosaic Idealize.ShloMosaic.StableHlo Idealize.SL.Sem

set_option maxHeartbeats 1000000 in
/-- The four results agree. -/
theorem tail_agree (VK : KV) (VR : RV)
    (hk : VK (Proc.devRef .tc KernelIdeal.main_v90) = VR (Proc.devRef .tc ReferenceIdeal.main_v177))
    (hc : VK (Proc.devRef .tc KernelIdeal.main_cst_20) = VR (Proc.devRef .tc ReferenceIdeal.main_cst_38))
    (hs : VK (Proc.devRef .tc KernelIdeal.main_v72) = VR (Proc.devRef .tc ReferenceIdeal.main_v104))
    (hb : VK (Proc.devRef .tc KernelIdeal.main_v69) = VR (Proc.devRef .tc ReferenceIdeal.main_v89))
    (hl : VK (Proc.devRef .tc KernelIdeal.main_v9) = VR (Proc.devRef .tc ReferenceIdeal.main_v33)) :
    after kTail VK (Proc.devRef .tc KernelIdeal.main_v99) = after rTail VR (Proc.devRef .tc ReferenceIdeal.main_v186)
      ∧ after kTail VK (Proc.devRef .tc KernelIdeal.main_v100) = after rTail VR (Proc.devRef .tc ReferenceIdeal.main_v187)
      ∧ after kTail VK (Proc.devRef .tc KernelIdeal.main_v101) = after rTail VR (Proc.devRef .tc ReferenceIdeal.main_v188)
      ∧ after kTail VK (Proc.devRef .tc KernelIdeal.main_v93) = after rTail VR (Proc.devRef .tc ReferenceIdeal.main_v180) := by
  refine ⟨?_, ?_, ?_, ?_⟩
  all_goals after_reads_simp
  all_goals try rw [hk]
  all_goals try rw [hc]
  all_goals try rw [hs]
  all_goals try rw [hb]
  all_goals try rw [hl]
  all_goals rfl

end Cert.V01

end
-- ==== Proof.V01.Final.lean ====
/- The two programs' results, joined stage by stage. -/
module

public import proofs.«01_k».proof.Proof.V01.RefFlags
public import proofs.«01_k».proof.Proof.V01.Candidates
public import proofs.«01_k».proof.Proof.V01.Middle
public import proofs.«01_k».proof.Proof.V01.Tail
public import proofs.«01_k».proof.Proof.V01.ScoreRegion
public import proofs.«01_k».proof.Proof.V01.NmsRegion

@[expose] public section

set_option maxRecDepth 16384

noncomputable section

namespace Cert.V01

open ReferenceIdeal.Value
open Idealize.ShloMosaic.ValueIdx
open Idealize.ShloMosaic Idealize.ShloMosaic.StableHlo Idealize.SL.Sem

variable (m : (ℓ : Loc KernelIdeal.nD KernelIdeal.τ KernelIdeal.sig) → Buf (Elt Ideal) ℓ) (ρ : Dev KernelIdeal.nD → PrngReg)
variable (m' : (ℓ : Loc ReferenceIdeal.nD ReferenceIdeal.τ ReferenceIdeal.sig) → Buf (Elt Ideal) ℓ) (c : Dev KernelIdeal.nD)

/-- The scores the region leaves are the reference's flat masked scores. -/
theorem masked_eq (A1 : ReferenceIdeal.S2x80x128x128.Idx → EReal) (A3 : ReferenceIdeal.S2x1x128x128.Idx → EReal)
    (k1 : KernelIdeal.Gen.W0 m ρ c (Proc.devRef .tc KernelIdeal.main_arg1) = A1) (k3 : KernelIdeal.Gen.W0 m ρ c (Proc.devRef .tc KernelIdeal.main_arg3) = A3)
    (r1 : launchContents m' c (Proc.devRef .tc ReferenceIdeal.main_arg1) = A1) (r3 : launchContents m' c (Proc.devRef .tc ReferenceIdeal.main_arg3) = A3) :
    kv1 m ρ c (Proc.devRef .tc KernelIdeal.main_v4) = rv1 m' c (Proc.devRef .tc ReferenceIdeal.main_v28) := by
  have h : ReferenceIdeal.S2x128x128x1.ShapeCasts ReferenceIdeal.S2x16384x1 := KernelIdeal.Gen.shapeCasts_S2x128x128x1_S2x16384x1
  obtain ⟨l1, l3⟩ := layout_read (KernelIdeal.Gen.W0 m ρ c) h
  rw [k1] at l1
  rw [k3] at l3
  refine ((KernelIdeal.Gen.W2_arr m ρ c 2).trans (score_final (KernelIdeal.Gen.V1 m ρ) c)).trans ?_
  refine Eq.trans ?_ (flat_agree (launchContents m' c) A1 A3 r1 r3 h).symm
  exact congr (congrArg maskedScores l1) l3

/-- The two launches hold the same arguments. -/
structure SameArgs : Prop where
  /-- The locations. -/
  locations : kv1 m ρ c (Proc.devRef .tc KernelIdeal.main_arg0) = launchContents m' c (Proc.devRef .tc ReferenceIdeal.main_arg0)
  /-- The masked scores the class scores and the centerness give. -/
  masked : kv1 m ρ c (Proc.devRef .tc KernelIdeal.main_v4) = rv1 m' c (Proc.devRef .tc ReferenceIdeal.main_v28)
  /-- The regression. -/
  regression : kv1 m ρ c (Proc.devRef .tc KernelIdeal.main_arg2) = launchContents m' c (Proc.devRef .tc ReferenceIdeal.main_arg2)
  /-- The image sizes. -/
  sizes : kv1 m ρ c (Proc.devRef .tc KernelIdeal.main_arg4) = launchContents m' c (Proc.devRef .tc ReferenceIdeal.main_arg4)
  /-- Every candidate passes the reference's validity where it passes the score test. -/
  valid : rv4 m' c (Proc.devRef .tc ReferenceIdeal.main_v101) = rv2 m' c (Proc.devRef .tc ReferenceIdeal.main_v35)

variable {m ρ m' c} (H : SameArgs m ρ m' c)
include H

/-- The candidates agree. -/
theorem picked : kv2 m ρ c (Proc.devRef .tc KernelIdeal.main_values) = rv2 m' c (Proc.devRef .tc ReferenceIdeal.main_values)
      ∧ kv2 m ρ c (Proc.devRef .tc KernelIdeal.main_v9) = rv2 m' c (Proc.devRef .tc ReferenceIdeal.main_v33)
      ∧ kv2 m ρ c (Proc.devRef .tc KernelIdeal.main_v11) = rv2 m' c (Proc.devRef .tc ReferenceIdeal.main_v35)
      ∧ kv2 m ρ c (Proc.devRef .tc KernelIdeal.main_v23) = rv2 m' c (Proc.devRef .tc ReferenceIdeal.main_v43)
      ∧ kv2 m ρ c (Proc.devRef .tc KernelIdeal.main_v22) = rv2 m' c (Proc.devRef .tc ReferenceIdeal.main_v42) :=
  pick_agree (kv1 m ρ c) (rv1 m' c) H.masked (H.locations.trans (rFlat_keeps (launchContents m' c)).1.symm)

/-- The clipped boxes agree. -/
theorem boxes_eq : kv4 m ρ c (Proc.devRef .tc KernelIdeal.main_v69) = rv4 m' c (Proc.devRef .tc ReferenceIdeal.main_v89) := by
  obtain ⟨-, -, -, hi, hl⟩ := picked H
  have hr : kv2 m ρ c (Proc.devRef .tc KernelIdeal.main_v15) = rv2 m' c (Proc.devRef .tc ReferenceIdeal.main_v14) :=
    (scaled_agree (kv1 m ρ c) (launchContents m' c) H.regression).trans (rPick_keeps (rv1 m' c)).1.symm
  have h4 : kv2 m ρ c (Proc.devRef .tc KernelIdeal.main_arg4) = rv2 m' c (Proc.devRef .tc ReferenceIdeal.main_arg4) :=
    (kPick_keeps (kv1 m ρ c)).trans (H.sizes.trans ((rPick_keeps (rv1 m' c)).2.trans (rFlat_keeps (launchContents m' c)).2).symm)
  obtain ⟨a, b, d, e⟩ := coord_agree (kv2 m ρ c) (rv2 m' c) hr hi hl h4
  exact boxes_agree (kv3 m ρ c) (rv3 m' c) a b d e

/-- The scores agree. -/
theorem scores_eq : kv5 m ρ c (Proc.devRef .tc KernelIdeal.main_v72) = rv5 m' c (Proc.devRef .tc ReferenceIdeal.main_v104) := by
  obtain ⟨ht, -, hv, -, -⟩ := picked H
  obtain ⟨kt, -, kv⟩ := kCoord_keeps (kv2 m ρ c)
  obtain ⟨kt', -, kv'⟩ := kBoxes_keeps (kv3 m ρ c)
  exact score_agree (kv4 m ρ c) (rv4 m' c) (one_agree (kv3 m ρ c) (rv3 m' c)) ((kv'.trans kv).trans (hv.trans H.valid.symm))
    ((kt'.trans kt).trans (ht.trans ((rBoxes_keeps (rv3 m' c)).1.trans (rCoord_keeps (rv2 m' c)).1).symm))

/-- The labels agree after the score stage. -/
theorem labels_eq : kv5 m ρ c (Proc.devRef .tc KernelIdeal.main_v9) = rv5 m' c (Proc.devRef .tc ReferenceIdeal.main_v33) :=
  ((kScore_keeps (kv4 m ρ c)).2.1.trans ((kBoxes_keeps (kv3 m ρ c)).2.1.trans (kCoord_keeps (kv2 m ρ c)).2.1)).trans
    ((picked H).2.1.trans ((rScore_keeps (rv4 m' c)).2.1.trans ((rBoxes_keeps (rv3 m' c)).2.trans (rCoord_keeps (rv2 m' c)).2)).symm)

/-- The boxes agree after the score stage. -/
theorem boxes_kept : kv5 m ρ c (Proc.devRef .tc KernelIdeal.main_v69) = rv5 m' c (Proc.devRef .tc ReferenceIdeal.main_v89) :=
  (kScore_keeps (kv4 m ρ c)).1.trans ((boxes_eq H).trans (rScore_keeps (rv4 m' c)).1.symm)

/-- The boxes shifted by their labels agree. -/
theorem shifted_eq : kv6 m ρ c (Proc.devRef .tc KernelIdeal.main_v80) = rv6 m' c (Proc.devRef .tc ReferenceIdeal.main_v112) :=
  shift_agree (kv5 m ρ c) (rv5 m' c) (boxes_kept H) (labels_eq H)

/-- The flags of the kept boxes agree. -/
theorem flags_eq : kv9 m ρ c (Proc.devRef .tc KernelIdeal.main_v90) = rv11 m' c (Proc.devRef .tc ReferenceIdeal.main_v177) := by
  obtain ⟨S, hS⟩ : ∃ S : ReferenceIdeal.S2x1000x4.Idx → EReal, rv6 m' c (Proc.devRef .tc ReferenceIdeal.main_v112) = S := ⟨_, rfl⟩
  obtain ⟨K, hK⟩ : ∃ K : ReferenceIdeal.S2x1000.Idx → BitVec 1, rv2 m' c (Proc.devRef .tc ReferenceIdeal.main_v35) = K := ⟨_, rfl⟩
  have kK : kv6 m ρ c (Proc.devRef .tc KernelIdeal.main_v11) = K :=
    ((kShift_keeps (kv5 m ρ c)).2.2.2.trans ((kScore_keeps (kv4 m ρ c)).2.2.trans
      ((kBoxes_keeps (kv3 m ρ c)).2.2.trans (kCoord_keeps (kv2 m ρ c)).2.2))).trans ((picked H).2.2.1.trans hK)
  obtain ⟨z, z', e1, e2, e5⟩ := operands_read (kv6 m ρ c) S K ((shifted_eq H).trans hS) kK
  have hV : ∀ b : Ref KernelIdeal.sig .tc, KernelIdeal.Gen.V25 m ρ c b = kv7 m ρ c (Proc.devRef .tc b) :=
    fun b => congrFun (W25_eq m ρ c) (Proc.devRef .tc b)
  have hG : kv8 m ρ c (Proc.devRef .tc KernelIdeal.main_v86)
      = kept (padBoxes z S) (transpose KernelIdeal.S2x4x1024 [0, 2, 1] (padBoxes z S) KernelIdeal.Gen.transposes_S2x1024x4_S2x4x1024_0_2_1)
          (broadcastInDim KernelIdeal.S2x1x1024 ![0, 2] KernelIdeal.Gen.bcast_S2x1024_S2x1x1024_0_2 (padFlags z' K)) :=
    ((KernelIdeal.Gen.W26_arr m ρ c 3).trans (kept_final (KernelIdeal.Gen.V25 m ρ) c)).trans
      (congr (congr (congrArg kept ((hV _).trans e1)) ((hV _).trans e2)) ((hV _).trans e5))
  refine Eq.trans ?_ (left_eq m' c H.valid S hS K hK).symm
  funext y
  obtain ⟨b, j, rfl⟩ : ∃ (b : Fin 2) (j : Fin 1000), y = ix2 b j := ⟨y 0, y 1, eq_ix2 y⟩
  exact (kept_read (kv8 m ρ c) _ hG b j).trans (kept_agree S K _ (fun b i j => ratios_at S b i j) z z' b j)

/-- The four results agree. -/
theorem results_eq : kv10 m ρ c (Proc.devRef .tc KernelIdeal.main_v99) = rv12 m' c (Proc.devRef .tc ReferenceIdeal.main_v186)
      ∧ kv10 m ρ c (Proc.devRef .tc KernelIdeal.main_v100) = rv12 m' c (Proc.devRef .tc ReferenceIdeal.main_v187)
      ∧ kv10 m ρ c (Proc.devRef .tc KernelIdeal.main_v101) = rv12 m' c (Proc.devRef .tc ReferenceIdeal.main_v188)
      ∧ kv10 m ρ c (Proc.devRef .tc KernelIdeal.main_v93) = rv12 m' c (Proc.devRef .tc ReferenceIdeal.main_v180) := by
  obtain ⟨q1, q2, q3⟩ := kKeep_keeps (kv8 m ρ c)
  obtain ⟨w1, w2, w3⟩ := region_leaves m ρ c
  obtain ⟨p1, p2, p3⟩ := kPad_keeps (kv6 m ρ c)
  obtain ⟨s1, s2, s3, -⟩ := kShift_keeps (kv5 m ρ c)
  obtain ⟨u1, u2, u3⟩ := rUnsort_keeps (rv10 m' c)
  obtain ⟨-, l1, l2, l3⟩ := loop_leaves m' c
  obtain ⟨-, i1, i2, i3⟩ := rIou_keeps (rv8 m' c)
  obtain ⟨-, g1, g2, g3⟩ := rGather_keeps (rv7 m' c)
  obtain ⟨-, -, o1, o2, o3⟩ := rOrder_keeps (rv6 m' c)
  obtain ⟨t1, t2, t3, -⟩ := rShift_keeps (rv5 m' c)
  refine tail_agree (kv9 m ρ c) (rv11 m' c) (flags_eq H) (mask_agree (kv8 m ρ c) (rv10 m' c)) ?_ ?_ ?_
  · exact (q1.trans (w1.trans (p1.trans s1))).trans ((scores_eq H).trans (u1.trans (l1.trans (i1.trans (g1.trans (o1.trans t1))))).symm)
  · exact (q2.trans (w2.trans (p2.trans s2))).trans ((boxes_kept H).trans (u2.trans (l2.trans (i2.trans (g2.trans (o2.trans t2))))).symm)
  · exact (q3.trans (w3.trans (p3.trans s3))).trans ((labels_eq H).trans (u3.trans (l3.trans (i3.trans (g3.trans (o3.trans t3))))).symm)

end Cert.V01

end
-- ==== Proof.V01.Equal.lean ====
/- The value claim: the kernel's results are the reference's. -/
module

public import proofs.«01_k».proof.Defs
public import proofs.«01_k».proof.Proof.V01.Final

@[expose] public section

set_option maxRecDepth 16384

noncomputable section

namespace Cert.V01

open Idealize.ShloMosaic.ValueIdx
open Idealize.ShloMosaic Idealize.ShloMosaic.StableHlo Idealize.SL.Sem

/-- The precondition's side condition. -/
theorem pre_facts : Cert.Pre_nonneg_regression.Facts := ⟨by decide⟩

/-- Under the precondition no entry of the regression is negative. -/
theorem launched_nonneg (m : (ℓ : Loc Cert.KernelIdeal.nD Cert.KernelIdeal.τ Cert.KernelIdeal.sig) → Buf (Elt Ideal) ℓ)
    (hp : Cert.Pre_KernelIdeal_nonneg_regression (hPre_nonneg_regression := pre_facts) m) (c : Dev Cert.KernelIdeal.nD) (A : Cert.KernelIdeal.S2x4x128x128.Idx → EReal)
    (hA : m ((c.tc : Thread Cert.KernelIdeal.nD Cert.KernelIdeal.τ).loc Cert.KernelIdeal.main_arg2) = A) (i : Cert.KernelIdeal.S2x4x128x128.Idx) : 0 ≤ A i := by
  have h := congrFun (hp c) i
  rw [hA] at h
  have h' : BitVec.ofBool (decide (FloatOps.ofBits (F := Ideal) .f32 0x00000000#32 ≤ A i)) = 1#1 := h
  rw [zero_word] at h'
  by_contra hn
  rw [decide_eq_false hn] at h'
  exact absurd h' (by decide)

/-- From memories that agree on the arguments, with a regression that is not negative, the kernel and the reference end with equal results. -/
theorem equal_results : Cert.algebraic_KernelIdeal_ReferenceIdeal_pre_nonneg_regression (hKernelIdeal := Cert.KernelIdeal.Gen.facts)
    (hReferenceIdeal := Cert.ReferenceIdeal.Gen.facts) (hPre_nonneg_regression := pre_facts) := by
  intro m ρ m' ρ' hp ha
  have hfin : ∀ c : Dev Cert.KernelIdeal.nD, _ := fun c => results_eq (m := m) (ρ := ρ) (m' := m') (c := c)
    { locations := (Cert.KernelIdeal.Gen.W2_args m ρ c _ (by decide)).trans (ha c).1.symm
      masked := masked_eq m ρ m' c _ _ rfl rfl (ha c).2.1 (ha c).2.2.2.1
      regression := (Cert.KernelIdeal.Gen.W2_args m ρ c _ (by decide)).trans (ha c).2.2.1.symm
      sizes := (Cert.KernelIdeal.Gen.W2_args m ρ c _ (by decide)).trans (ha c).2.2.2.2.symm
      valid := valid_eq m' c _ (ha c).2.2.1 (launched_nonneg m hp c _ rfl) }
  refine ⟨fun c => Cert.KernelIdeal.Gen.W38 m ρ c (Proc.devRef .tc Cert.KernelIdeal.main_v99), fun c => Cert.KernelIdeal.Gen.W38 m ρ c (Proc.devRef .tc Cert.KernelIdeal.main_v100),
    fun c => Cert.KernelIdeal.Gen.W38 m ρ c (Proc.devRef .tc Cert.KernelIdeal.main_v101), fun c => Cert.KernelIdeal.Gen.W38 m ρ c (Proc.devRef .tc Cert.KernelIdeal.main_v93),
    ker_run m ρ, (θ_run _ _ _).mono (fun r h c => ?_) (ref_run m' ρ')⟩
  obtain ⟨f0, f1, f2, f3⟩ := hfin c
  obtain ⟨e0, e1, e2, e3, args⟩ := h c
  have hw := W38_eq m ρ c
  exact ⟨e0.trans (f0.symm.trans (congrFun hw _).symm), e1.trans (f1.symm.trans (congrFun hw _).symm),
    e2.trans (f2.symm.trans (congrFun hw _).symm), e3.trans (f3.symm.trans (congrFun hw _).symm), args⟩

end Cert.V01

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.V01.RefRun
public import proofs.«01_k».proof.Proof.V01.KerRun
public import proofs.«01_k».proof.Proof.V01.Equal
public import Idealize.ShloMosaic.Adequacy
public import Idealize.ShloMosaic.Init

@[expose] public section

noncomputable section

namespace Cert.Proof

open Idealize.ShloMosaic Idealize.SL.Sem Cert.Kernel

/-- The reference's frame: its run reads every argument as launched, and it declares no semaphore. -/
theorem frame_r : Cert.quiescent_ReferenceIdeal := fun m ρ _ =>
  (θ_run _ _ _).mono (fun r h => ⟨fun c => (h c).2.2.2.2, sem_eq_zero_of_no_sems (by decide) r.2⟩) (Cert.V01.ref_run m ρ)

theorem claim : Cert.Claim := ⟨Cert.Kernel.Gen.facts, Cert.KernelIdeal.Gen.facts, Cert.ReferenceIdeal.Gen.facts, Cert.V01.pre_facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial, trivial, Cert.V01.equal_results⟩

end Cert.Proof

end
